-- ==== Defs.lean ====
def Pre_Kernel [hPre_rows_in_table : Cert.Pre_rows_in_table.Facts] (m : (ℓ : Loc Cert.Kernel.nD Cert.Kernel.τ Cert.Kernel.sig) → Buf (Elt Bits) ℓ) : Prop :=
  ∀ c : Dev Cert.Kernel.nD,
    (Cert.Pre_rows_in_table.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_rows_in_table : Cert.Pre_rows_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_rows_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_KernelIdeal_rows_and_variances [hPre_rows_and_variances : Cert.Pre_rows_and_variances.Facts] (m : (ℓ : Loc Cert.KernelIdeal.nD Cert.KernelIdeal.τ Cert.KernelIdeal.sig) → Buf (Elt Ideal) ℓ) : Prop :=
  ∀ c : Dev Cert.KernelIdeal.nD,
    (Cert.Pre_rows_and_variances.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_and_variances [hPre_rows_and_variances : Cert.Pre_rows_and_variances.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_and_variances.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def quiescent_Kernel [hKernel : Cert.Kernel.Facts] [hPre_rows_in_table : Cert.Pre_rows_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))
      ∧ r.2.sem = fun _ => 0)

def quiescent_KernelIdeal [hKernelIdeal : Cert.KernelIdeal.Facts] [hPre_rows_in_table : Cert.Pre_rows_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_KernelIdeal_pre_rows_and_variances [hKernelIdeal : Cert.KernelIdeal.Facts] [hPre_rows_and_variances : Cert.Pre_rows_and_variances.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_and_variances m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def quiescent_ReferenceIdeal_pre_rows_and_variances [hReferenceIdeal : Cert.ReferenceIdeal.Facts] [hPre_rows_and_variances : Cert.Pre_rows_and_variances.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_and_variances m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def preserves_Kernel_KernelIdeal : Prop :=
  True

def algebraic_KernelIdeal_ReferenceIdeal_pre_rows_and_variances [hKernelIdeal : Cert.KernelIdeal.Facts] [hReferenceIdeal : Cert.ReferenceIdeal.Facts] [hPre_rows_and_variances : Cert.Pre_rows_and_variances.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_and_variances m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_rows_in_table : Cert.Pre_rows_in_table.Facts) (hPre_rows_and_variances : Cert.Pre_rows_and_variances.Facts),
    quiescent_Kernel (hKernel := hKernel) (hPre_rows_in_table := hPre_rows_in_table)
    ∧ quiescent_KernelIdeal (hKernelIdeal := hKernelIdeal) (hPre_rows_in_table := hPre_rows_in_table)
    ∧ quiescent_KernelIdeal_pre_rows_and_variances (hKernelIdeal := hKernelIdeal) (hPre_rows_and_variances := hPre_rows_and_variances)
    ∧ quiescent_ReferenceIdeal (hReferenceIdeal := hReferenceIdeal)
    ∧ quiescent_ReferenceIdeal_pre_rows_and_variances (hReferenceIdeal := hReferenceIdeal) (hPre_rows_and_variances := hPre_rows_and_variances)
    ∧ preserves_Kernel_KernelIdeal
    ∧ algebraic_KernelIdeal_ReferenceIdeal_pre_rows_and_variances (hKernelIdeal := hKernelIdeal) (hReferenceIdeal := hReferenceIdeal) (hPre_rows_and_variances := hPre_rows_and_variances)
-- ==== Pre_rows_and_variances.lean ====
abbrev S4096x26 : Shape := ⟨2, ![4096, 26]⟩
abbrev S4096x13 : Shape := ⟨2, ![4096, 13]⟩
abbrev S26x1000000x16 : Shape := ⟨3, ![26, 1000000, 16]⟩
abbrev S13 : Shape := ⟨1, ![13]⟩
abbrev S256x429 : Shape := ⟨2, ![256, 429]⟩
abbrev S256 : Shape := ⟨1, ![256]⟩
abbrev S128x256 : Shape := ⟨2, ![128, 256]⟩
abbrev S128 : Shape := ⟨1, ![128]⟩
abbrev S1x128 : Shape := ⟨2, ![1, 128]⟩
abbrev S1 : Shape := ⟨1, ![1]⟩
abbrev S_ : Shape := ⟨0, ![]⟩

class Facts : Prop where
  bcast_S_S4096x26 : S_.BroadcastsInDim S4096x26 (![] : Fin 0 → Fin S4096x26.rank)
  reducesTo_S4096x26_S_d0_1 : S4096x26.ReducesTo [0, 1] S_
  h_S_ : 0 < S_.numel
  bcast_S_S13 : S_.BroadcastsInDim S13 (![] : Fin 0 → Fin S13.rank)
  reducesTo_S13_S_d0 : S13.ReducesTo [0] S_
  bcast_S_S256 : S_.BroadcastsInDim S256 (![] : Fin 0 → Fin S256.rank)
  reducesTo_S256_S_d0 : S256.ReducesTo [0] S_
  bcast_S_S128 : S_.BroadcastsInDim S128 (![] : Fin 0 → Fin S128.rank)
  reducesTo_S128_S_d0 : S128.ReducesTo [0] S_

variable [Facts]

def fn_part1 {F : FTy → Type} [FloatOps F] (main_arg18 : FVec F S128 .f32) (main_v11 : IVec S_ 1) (main_v15 : IVec S256 1) : IVec S_ 1 :=
  let main_c_6 : IVec S_ 1 := constantI S_ 1 1#1
  let main_v16 : IVec S_ 1 := (fun x v => Host.reduce IntOp.andi x v reducesTo_S256_S_d0 h_S_) main_v15 main_c_6
  let main_v17 : IVec S_ 1 := andi main_v11 main_v16
  let main_cst_7 : FVec F S_ .f32 := constant S_ .f32 0x3727C5AC#32
  let main_v18 : FVec F S128 .f32 := broadcastInDim S128 ![] bcast_S_S128 main_cst_7
  let main_v19 : FVec F S128 .f32 := addf main_arg18 main_v18
  let main_cst_8 : FVec F S_ .f32 := constant S_ .f32 0x00000000#32
  let main_v20 : FVec F S128 .f32 := broadcastInDim S128 ![] bcast_S_S128 main_cst_8
  let main_v21 : IVec S128 1 := cmpf .ogt main_v19 main_v20
  let main_c_9 : IVec S_ 1 := constantI S_ 1 1#1
  let main_v22 : IVec S_ 1 := (fun x v => Host.reduce IntOp.andi x v reducesTo_S128_S_d0 h_S_) main_v21 main_c_9
  let main_v23 : IVec S_ 1 := andi main_v17 main_v22
  main_v23

def fn {F : FTy → Type} [FloatOps F] (main_arg0 : IVec S4096x26 32) (main_arg1 : FVec F S4096x13 .f32) (main_arg2 : FVec F S26x1000000x16 .f32) (main_arg3 : FVec F S13 .f32) (main_arg4 : FVec F S13 .f32) (main_arg5 : FVec F S13 .f32) (main_arg6 : FVec F S13 .f32) (main_arg7 : FVec F S256x429 .f32) (main_arg8 : FVec F S256 .f32) (main_arg9 : FVec F S256 .f32) (main_arg10 : FVec F S256 .f32) (main_arg11 : FVec F S256 .f32) (main_arg12 : FVec F S256 .f32) (main_arg13 : FVec F S128x256 .f32) (main_arg14 : FVec F S128 .f32) (main_arg15 : FVec F S128 .f32) (main_arg16 : FVec F S128 .f32) (main_arg17 : FVec F S128 .f32) (main_arg18 : FVec F S128 .f32) (main_arg19 : FVec F S1x128 .f32) (main_arg20 : FVec F S1 .f32) : IVec S_ 1 :=
  let main_c : IVec S_ 32 := constantI S_ 32 0#32
  let main_v0 : IVec S4096x26 32 := broadcastInDim S4096x26 ![] bcast_S_S4096x26 main_c
  let main_v1 : IVec S4096x26 1 := cmpi .sge main_arg0 main_v0
  let main_c_0 : IVec S_ 32 := constantI S_ 32 1000000#32
  let main_v2 : IVec S4096x26 32 := broadcastInDim S4096x26 ![] bcast_S_S4096x26 main_c_0
  let main_v3 : IVec S4096x26 1 := cmpi .slt main_arg0 main_v2
  let main_v4 : IVec S4096x26 1 := andi main_v1 main_v3
  let main_c_1 : IVec S_ 1 := constantI S_ 1 1#1
  let main_v5 : IVec S_ 1 := (fun x v => Host.reduce IntOp.andi x v reducesTo_S4096x26_S_d0_1 h_S_) main_v4 main_c_1
  let main_cst : FVec F S_ .f32 := constant S_ .f32 0x3727C5AC#32
  let main_v6 : FVec F S13 .f32 := broadcastInDim S13 ![] bcast_S_S13 main_cst
  let main_v7 : FVec F S13 .f32 := addf main_arg6 main_v6
  let main_cst_2 : FVec F S_ .f32 := constant S_ .f32 0x00000000#32
  let main_v8 : FVec F S13 .f32 := broadcastInDim S13 ![] bcast_S_S13 main_cst_2
  let main_v9 : IVec S13 1 := cmpf .ogt main_v7 main_v8
  let main_c_3 : IVec S_ 1 := constantI S_ 1 1#1
  let main_v10 : IVec S_ 1 := (fun x v => Host.reduce IntOp.andi x v reducesTo_S13_S_d0 h_S_) main_v9 main_c_3
  let main_v11 : IVec S_ 1 := andi main_v5 main_v10
  let main_cst_4 : FVec F S_ .f32 := constant S_ .f32 0x3727C5AC#32
  let main_v12 : FVec F S256 .f32 := broadcastInDim S256 ![] bcast_S_S256 main_cst_4
  let main_v13 : FVec F S256 .f32 := addf main_arg12 main_v12
  let main_cst_5 : FVec F S_ .f32 := constant S_ .f32 0x00000000#32
  let main_v14 : FVec F S256 .f32 := broadcastInDim S256 ![] bcast_S_S256 main_cst_5
  let main_v15 : IVec S256 1 := cmpf .ogt main_v13 main_v14
  fn_part1 (F := F) main_arg18 main_v11 main_v15
-- ==== Pre_rows_in_table.lean ====
abbrev S4096x26 : Shape := ⟨2, ![4096, 26]⟩
abbrev S4096x13 : Shape := ⟨2, ![4096, 13]⟩
abbrev S26x1000000x16 : Shape := ⟨3, ![26, 1000000, 16]⟩
abbrev S13 : Shape := ⟨1, ![13]⟩
abbrev S256x429 : Shape := ⟨2, ![256, 429]⟩
abbrev S256 : Shape := ⟨1, ![256]⟩
abbrev S128x256 : Shape := ⟨2, ![128, 256]⟩
abbrev S128 : Shape := ⟨1, ![128]⟩
abbrev S1x128 : Shape := ⟨2, ![1, 128]⟩
abbrev S1 : Shape := ⟨1, ![1]⟩
abbrev S_ : Shape := ⟨0, ![]⟩

class Facts : Prop where
  bcast_S_S4096x26 : S_.BroadcastsInDim S4096x26 (![] : Fin 0 → Fin S4096x26.rank)
  reducesTo_S4096x26_S_d0_1 : S4096x26.ReducesTo [0, 1] S_
  h_S_ : 0 < S_.numel

variable [Facts]

def fn {F : FTy → Type} [FloatOps F] (main_arg0 : IVec S4096x26 32) (main_arg1 : FVec F S4096x13 .f32) (main_arg2 : FVec F S26x1000000x16 .f32) (main_arg3 : FVec F S13 .f32) (main_arg4 : FVec F S13 .f32) (main_arg5 : FVec F S13 .f32) (main_arg6 : FVec F S13 .f32) (main_arg7 : FVec F S256x429 .f32) (main_arg8 : FVec F S256 .f32) (main_arg9 : FVec F S256 .f32) (main_arg10 : FVec F S256 .f32) (main_arg11 : FVec F S256 .f32) (main_arg12 : FVec F S256 .f32) (main_arg13 : FVec F S128x256 .f32) (main_arg14 : FVec F S128 .f32) (main_arg15 : FVec F S128 .f32) (main_arg16 : FVec F S128 .f32) (main_arg17 : FVec F S128 .f32) (main_arg18 : FVec F S128 .f32) (main_arg19 : FVec F S1x128 .f32) (main_arg20 : FVec F S1 .f32) : IVec S_ 1 :=
  let main_c : IVec S_ 32 := constantI S_ 32 0#32
  let main_v0 : IVec S4096x26 32 := broadcastInDim S4096x26 ![] bcast_S_S4096x26 main_c
  let main_v1 : IVec S4096x26 1 := cmpi .sge main_arg0 main_v0
  let main_c_0 : IVec S_ 32 := constantI S_ 32 1000000#32
  let main_v2 : IVec S4096x26 32 := broadcastInDim S4096x26 ![] bcast_S_S4096x26 main_c_0
  let main_v3 : IVec S4096x26 1 := cmpi .slt main_arg0 main_v2
  let main_v4 : IVec S4096x26 1 := andi main_v1 main_v3
  let main_c_1 : IVec S_ 1 := constantI S_ 1 1#1
  let main_v5 : IVec S_ 1 := (fun x v => Host.reduce IntOp.andi x v reducesTo_S4096x26_S_d0_1 h_S_) main_v4 main_c_1
  main_v5
-- ==== Kernel.lean ====
abbrev S4096x26 : Shape := ⟨2, ![4096, 26]⟩
abbrev S4096x13 : Shape := ⟨2, ![4096, 13]⟩
abbrev S26x1000000x16 : Shape := ⟨3, ![26, 1000000, 16]⟩
abbrev S13 : Shape := ⟨1, ![13]⟩
abbrev S256x429 : Shape := ⟨2, ![256, 429]⟩
abbrev S256 : Shape := ⟨1, ![256]⟩
abbrev S128x256 : Shape := ⟨2, ![128, 256]⟩
abbrev S128 : Shape := ⟨1, ![128]⟩
abbrev S1x128 : Shape := ⟨2, ![1, 128]⟩
abbrev S1 : Shape := ⟨1, ![1]⟩
abbrev S26 : Shape := ⟨1, ![26]⟩
abbrev S_ : Shape := ⟨0, ![]⟩
abbrev S1x26 : Shape := ⟨2, ![1, 26]⟩
abbrev S32x26x128 : Shape := ⟨3, ![32, 26, 128]⟩
abbrev S26000000x16 : Shape := ⟨2, ![26000000, 16]⟩
abbrev S106496x16 : Shape := ⟨2, ![106496, 16]⟩
abbrev S26x128 : Shape := ⟨2, ![26, 128]⟩
abbrev S3328x16 : Shape := ⟨2, ![3328, 16]⟩
abbrev S1x26x128 : Shape := ⟨3, ![1, 26, 128]⟩
abbrev S128x16 : Shape := ⟨2, ![128, 16]⟩
abbrev S4096x416 : Shape := ⟨2, ![4096, 416]⟩
abbrev S1x13 : Shape := ⟨2, ![1, 13]⟩
abbrev S256x416 : Shape := ⟨2, ![256, 416]⟩
abbrev S416x256 : Shape := ⟨2, ![416, 256]⟩
abbrev S256x13 : Shape := ⟨2, ![256, 13]⟩
abbrev S13x256 : Shape := ⟨2, ![13, 256]⟩
abbrev S1x256 : Shape := ⟨2, ![1, 256]⟩
abbrev S256x128 : Shape := ⟨2, ![256, 128]⟩
abbrev S128x1 : Shape := ⟨2, ![128, 1]⟩
abbrev S1x1 : Shape := ⟨2, ![1, 1]⟩
abbrev S4096x1 : Shape := ⟨2, ![4096, 1]⟩
abbrev S512x416 : Shape := ⟨2, ![512, 416]⟩
abbrev S512x13 : Shape := ⟨2, ![512, 13]⟩
abbrev S512x1 : Shape := ⟨2, ![512, 1]⟩
abbrev S512x256 : Shape := ⟨2, ![512, 256]⟩
abbrev S512x128 : Shape := ⟨2, ![512, 128]⟩

abbrev nBuf : Table → Nat
  | .hbm => 54
  | .local .tc .vmem => 25
  | .local .scVector .vmem => 2
  | _ => 0

abbrev bufTy : (tb : Table) → Fin (nBuf tb) → BufTy
  | .hbm, ⟨0, _⟩ => ⟨S4096x26, .i32⟩
  | .hbm, ⟨1, _⟩ => ⟨S4096x13, .f32⟩
  | .hbm, ⟨2, _⟩ => ⟨S26x1000000x16, .f32⟩
  | .hbm, ⟨3, _⟩ => ⟨S13, .f32⟩
  | .hbm, ⟨4, _⟩ => ⟨S13, .f32⟩
  | .hbm, ⟨5, _⟩ => ⟨S13, .f32⟩
  | .hbm, ⟨6, _⟩ => ⟨S13, .f32⟩
  | .hbm, ⟨7, _⟩ => ⟨S256x429, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S128x256, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S1x128, .f32⟩
  | .hbm, ⟨20, _⟩ => ⟨S1, .f32⟩
  | .hbm, ⟨21, _⟩ => ⟨S26, .i32⟩
  | .hbm, ⟨22, _⟩ => ⟨S_, .i32⟩
  | .hbm, ⟨23, _⟩ => ⟨S26, .i32⟩
  | .hbm, ⟨24, _⟩ => ⟨S26, .i32⟩
  | .hbm, ⟨25, _⟩ => ⟨S1x26, .i32⟩
  | .hbm, ⟨26, _⟩ => ⟨S4096x26, .i32⟩
  | .hbm, ⟨27, _⟩ => ⟨S4096x26, .i32⟩
  | .hbm, ⟨28, _⟩ => ⟨S32x26x128, .i32⟩
  | .hbm, ⟨29, _⟩ => ⟨S26000000x16, .f32⟩
  | .hbm, ⟨30, _⟩ => ⟨S106496x16, .f32⟩
  | .hbm, ⟨31, _⟩ => ⟨S4096x416, .f32⟩
  | .hbm, ⟨32, _⟩ => ⟨S1x13, .f32⟩
  | .hbm, ⟨33, _⟩ => ⟨S1x13, .f32⟩
  | .hbm, ⟨34, _⟩ => ⟨S1x13, .f32⟩
  | .hbm, ⟨35, _⟩ => ⟨S1x13, .f32⟩
  | .hbm, ⟨36, _⟩ => ⟨S256x416, .f32⟩
  | .hbm, ⟨37, _⟩ => ⟨S416x256, .f32⟩
  | .hbm, ⟨38, _⟩ => ⟨S256x13, .f32⟩
  | .hbm, ⟨39, _⟩ => ⟨S13x256, .f32⟩
  | .hbm, ⟨40, _⟩ => ⟨S1x256, .f32⟩
  | .hbm, ⟨41, _⟩ => ⟨S1x256, .f32⟩
  | .hbm, ⟨42, _⟩ => ⟨S1x256, .f32⟩
  | .hbm, ⟨43, _⟩ => ⟨S1x256, .f32⟩
  | .hbm, ⟨44, _⟩ => ⟨S1x256, .f32⟩
  | .hbm, ⟨45, _⟩ => ⟨S256x128, .f32⟩
  | .hbm, ⟨46, _⟩ => ⟨S1x128, .f32⟩
  | .hbm, ⟨47, _⟩ => ⟨S1x128, .f32⟩
  | .hbm, ⟨48, _⟩ => ⟨S1x128, .f32⟩
  | .hbm, ⟨49, _⟩ => ⟨S1x128, .f32⟩
  | .hbm, ⟨50, _⟩ => ⟨S1x128, .f32⟩
  | .hbm, ⟨51, _⟩ => ⟨S128x1, .f32⟩
  | .hbm, ⟨52, _⟩ => ⟨S1x1, .f32⟩
  | .hbm, ⟨53, _⟩ => ⟨S4096x1, .f32⟩
  | .local .tc .vmem, ⟨0, _⟩ => ⟨S512x416, .f32⟩
  | .local .tc .vmem, ⟨1, _⟩ => ⟨S512x416, .f32⟩
  | .local .tc .vmem, ⟨2, _⟩ => ⟨S512x13, .f32⟩
  | .local .tc .vmem, ⟨3, _⟩ => ⟨S512x13, .f32⟩
  | .local .tc .vmem, ⟨4, _⟩ => ⟨S1x13, .f32⟩
  | .local .tc .vmem, ⟨5, _⟩ => ⟨S1x13, .f32⟩
  | .local .tc .vmem, ⟨6, _⟩ => ⟨S1x13, .f32⟩
  | .local .tc .vmem, ⟨7, _⟩ => ⟨S1x13, .f32⟩
  | .local .tc .vmem, ⟨8, _⟩ => ⟨S416x256, .f32⟩
  | .local .tc .vmem, ⟨9, _⟩ => ⟨S13x256, .f32⟩
  | .local .tc .vmem, ⟨10, _⟩ => ⟨S1x256, .f32⟩
  | .local .tc .vmem, ⟨11, _⟩ => ⟨S1x256, .f32⟩
  | .local .tc .vmem, ⟨12, _⟩ => ⟨S1x256, .f32⟩
  | .local .tc .vmem, ⟨13, _⟩ => ⟨S1x256, .f32⟩
  | .local .tc .vmem, ⟨14, _⟩ => ⟨S1x256, .f32⟩
  | .local .tc .vmem, ⟨15, _⟩ => ⟨S256x128, .f32⟩
  | .local .tc .vmem, ⟨16, _⟩ => ⟨S1x128, .f32⟩
  | .local .tc .vmem, ⟨17, _⟩ => ⟨S1x128, .f32⟩
  | .local .tc .vmem, ⟨18, _⟩ => ⟨S1x128, .f32⟩
  | .local .tc .vmem, ⟨19, _⟩ => ⟨S1x128, .f32⟩
  | .local .tc .vmem, ⟨20, _⟩ => ⟨S1x128, .f32⟩
  | .local .tc .vmem, ⟨21, _⟩ => ⟨S128x1, .f32⟩
  | .local .tc .vmem, ⟨22, _⟩ => ⟨S1x1, .f32⟩
  | .local .tc .vmem, ⟨23, _⟩ => ⟨S512x1, .f32⟩
  | .local .tc .vmem, ⟨24, _⟩ => ⟨S512x1, .f32⟩
  | .local .scVector .vmem, ⟨0, _⟩ => ⟨S26x128, .i32⟩
  | .local .scVector .vmem, ⟨1, _⟩ => ⟨S3328x16, .f32⟩
  | _, _ => ⟨S4096x26, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 28 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTables nBuf rfl bufTy 4 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_c : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v7_scv : Ref sig .scVector := ⟨.hbm, 29, rfl⟩
abbrev main_v6_scv : Ref sig .scVector := ⟨.hbm, 28, rfl⟩
abbrev main_v8_scv : Ref sig .scVector := ⟨.hbm, 30, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg6_0 : Ref sig .tc := ⟨.vmem, 8, rfl⟩
abbrev cc1_stg7_0 : Ref sig .tc := ⟨.vmem, 9, rfl⟩
abbrev cc1_stg8_0 : Ref sig .tc := ⟨.vmem, 10, rfl⟩
abbrev cc1_stg9_0 : Ref sig .tc := ⟨.vmem, 11, rfl⟩
abbrev cc1_stg10_0 : Ref sig .tc := ⟨.vmem, 12, rfl⟩
abbrev cc1_stg11_0 : Ref sig .tc := ⟨.vmem, 13, rfl⟩
abbrev cc1_stg12_0 : Ref sig .tc := ⟨.vmem, 14, rfl⟩
abbrev cc1_stg13_0 : Ref sig .tc := ⟨.vmem, 15, rfl⟩
abbrev cc1_stg14_0 : Ref sig .tc := ⟨.vmem, 16, rfl⟩
abbrev cc1_stg15_0 : Ref sig .tc := ⟨.vmem, 17, rfl⟩
abbrev cc1_stg16_0 : Ref sig .tc := ⟨.vmem, 18, rfl⟩
abbrev cc1_stg17_0 : Ref sig .tc := ⟨.vmem, 19, rfl⟩
abbrev cc1_stg18_0 : Ref sig .tc := ⟨.vmem, 20, rfl⟩
abbrev cc1_stg19_0 : Ref sig .tc := ⟨.vmem, 21, rfl⟩
abbrev cc1_stg20_0 : Ref sig .tc := ⟨.vmem, 22, rfl⟩
abbrev cc1_stg21_0 : Ref sig .tc := ⟨.vmem, 23, rfl⟩
abbrev cc1_stg21_1 : Ref sig .tc := ⟨.vmem, 24, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem7_0 : DmaSem sig := 12
abbrev cc1_sem8_0 : DmaSem sig := 13
abbrev cc1_sem9_0 : DmaSem sig := 14
abbrev cc1_sem10_0 : DmaSem sig := 15
abbrev cc1_sem11_0 : DmaSem sig := 16
abbrev cc1_sem12_0 : DmaSem sig := 17
abbrev cc1_sem13_0 : DmaSem sig := 18
abbrev cc1_sem14_0 : DmaSem sig := 19
abbrev cc1_sem15_0 : DmaSem sig := 20
abbrev cc1_sem16_0 : DmaSem sig := 21
abbrev cc1_sem17_0 : DmaSem sig := 22
abbrev cc1_sem18_0 : DmaSem sig := 23
abbrev cc1_sem19_0 : DmaSem sig := 24
abbrev cc1_sem20_0 : DmaSem sig := 25
abbrev cc1_sem21_0 : DmaSem sig := 26
abbrev cc1_sem21_1 : DmaSem sig := 27
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_262_r0 : BitVec 32 := 0#32
  let c0_i32_263_r0 : BitVec 32 := 0#32
  ![v1.toNat, 0, 0]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3328_i32 : BitVec 32 := 3328#32
  let v210 : BitVec 32 := Scalar.muli v1 c3328_i32
  let c0_i32_262_r1 : BitVec 32 := 0#32
  ![v210.toNat, 0]
abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_18 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_19 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_20 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_21 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x416 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x13 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x13 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x13 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x13 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x13 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S416x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S13x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x256 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x256 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S256x128 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x128 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S1x128 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S1x128 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .vmem S1x128 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]

abbrev stage1_18 : Fin 1 → Memref sig .tc .vmem S1x128 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))
abbrev reads1_18 : Fin grid1.rank → Bool := ![false]

abbrev stage1_19 : Fin 1 → Memref sig .tc .vmem S128x1 .f32 := fun | 0 => Memref.whole cc1_stg19_0 | ⟨_ + 1, h⟩ => absurd h (Nat.not_lt.2 (Nat.le_add_left _ _))
abbrev sem1_19 : Fin 1 → DmaSem sig := fun | 0 => cc1_sem19_0 | ⟨_ + 1, h⟩ => absurd h (Nat.not_lt.2 (Nat.le_add_left _ _))
abbrev reads1_19 : Fin grid1.rank → Bool := ![false]

abbrev stage1_20 : Fin 1 → Memref sig .tc .vmem S1x1 .f32 := fun | 0 => Memref.whole cc1_stg20_0 | ⟨_ + 1, h⟩ => absurd h (Nat.not_lt.2 (Nat.le_add_left _ _))
abbrev sem1_20 : Fin 1 → DmaSem sig := fun | 0 => cc1_sem20_0 | ⟨_ + 1, h⟩ => absurd h (Nat.not_lt.2 (Nat.le_add_left _ _))
abbrev reads1_20 : Fin grid1.rank → Bool := ![false]

abbrev stage1_21 : Fin 2 → Memref sig .tc .vmem S512x1 .f32 := fun | 0 => Memref.whole cc1_stg21_0 | 1 => Memref.whole cc1_stg21_1 | ⟨_ + 2, h⟩ => absurd h (Nat.not_lt.2 (Nat.le_add_left _ _))
abbrev sem1_21 : Fin 2 → DmaSem sig := fun | 0 => cc1_sem21_0 | 1 => cc1_sem21_1 | ⟨_ + 2, h⟩ => absurd h (Nat.not_lt.2 (Nat.le_add_left _ _))
abbrev reads1_21 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x26 : Shape := ⟨2, ![4096, 26]⟩
abbrev S4096x13 : Shape := ⟨2, ![4096, 13]⟩
abbrev S26x1000000x16 : Shape := ⟨3, ![26, 1000000, 16]⟩
abbrev S13 : Shape := ⟨1, ![13]⟩
abbrev S256x429 : Shape := ⟨2, ![256, 429]⟩
abbrev S256 : Shape := ⟨1, ![256]⟩
abbrev S128x256 : Shape := ⟨2, ![128, 256]⟩
abbrev S128 : Shape := ⟨1, ![128]⟩
abbrev S1x128 : Shape := ⟨2, ![1, 128]⟩
abbrev S1 : Shape := ⟨1, ![1]⟩
abbrev S26 : Shape := ⟨1, ![26]⟩
abbrev S1x26 : Shape := ⟨2, ![1, 26]⟩
abbrev S_ : Shape := ⟨0, ![]⟩
abbrev S4096x26x1 : Shape := ⟨3, ![4096, 26, 1]⟩
abbrev S4096x26x2 : Shape := ⟨3, ![4096, 26, 2]⟩
abbrev S4096x26x16 : Shape := ⟨3, ![4096, 26, 16]⟩
abbrev S4096x416 : Shape := ⟨2, ![4096, 416]⟩
abbrev S1x13 : Shape := ⟨2, ![1, 13]⟩
abbrev S4096x429 : Shape := ⟨2, ![4096, 429]⟩
abbrev S429x256 : Shape := ⟨2, ![429, 256]⟩
abbrev S4096x256 : Shape := ⟨2, ![4096, 256]⟩
abbrev S1x256 : Shape := ⟨2, ![1, 256]⟩
abbrev S256x128 : Shape := ⟨2, ![256, 128]⟩
abbrev S4096x128 : Shape := ⟨2, ![4096, 128]⟩
abbrev S128x1 : Shape := ⟨2, ![128, 1]⟩
abbrev S4096x1 : Shape := ⟨2, ![4096, 1]⟩
abbrev S1x1 : Shape := ⟨2, ![1, 1]⟩

abbrev nBuf : Space → Nat
  | .hbm => 113
  | .vmem => 0
  | .smem => 0
  | _ => 0

abbrev bufTy : (tb : Table) → Fin (tcTables nBuf tb) → BufTy
  | .hbm, ⟨0, _⟩ => ⟨S4096x26, .i32⟩
  | .hbm, ⟨1, _⟩ => ⟨S4096x13, .f32⟩
  | .hbm, ⟨2, _⟩ => ⟨S26x1000000x16, .f32⟩
  | .hbm, ⟨3, _⟩ => ⟨S13, .f32⟩
  | .hbm, ⟨4, _⟩ => ⟨S13, .f32⟩
  | .hbm, ⟨5, _⟩ => ⟨S13, .f32⟩
  | .hbm, ⟨6, _⟩ => ⟨S13, .f32⟩
  | .hbm, ⟨7, _⟩ => ⟨S256x429, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S128x256, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S1x128, .f32⟩
  | .hbm, ⟨20, _⟩ => ⟨S1, .f32⟩
  | .hbm, ⟨21, _⟩ => ⟨S26, .i32⟩
  | .hbm, ⟨22, _⟩ => ⟨S1x26, .i32⟩
  | .hbm, ⟨23, _⟩ => ⟨S_, .i32⟩
  | .hbm, ⟨24, _⟩ => ⟨S1x26, .i32⟩
  | .hbm, ⟨25, _⟩ => ⟨S1x26, .i1⟩
  | .hbm, ⟨26, _⟩ => ⟨S_, .i32⟩
  | .hbm, ⟨27, _⟩ => ⟨S1x26, .i32⟩
  | .hbm, ⟨28, _⟩ => ⟨S1x26, .i32⟩
  | .hbm, ⟨29, _⟩ => ⟨S1x26, .i32⟩
  | .hbm, ⟨30, _⟩ => ⟨S_, .i32⟩
  | .hbm, ⟨31, _⟩ => ⟨S4096x26, .i32⟩
  | .hbm, ⟨32, _⟩ => ⟨S4096x26, .i1⟩
  | .hbm, ⟨33, _⟩ => ⟨S_, .i32⟩
  | .hbm, ⟨34, _⟩ => ⟨S4096x26, .i32⟩
  | .hbm, ⟨35, _⟩ => ⟨S4096x26, .i32⟩
  | .hbm, ⟨36, _⟩ => ⟨S4096x26, .i32⟩
  | .hbm, ⟨37, _⟩ => ⟨S4096x26, .i32⟩
  | .hbm, ⟨38, _⟩ => ⟨S4096x26x1, .i32⟩
  | .hbm, ⟨39, _⟩ => ⟨S4096x26x1, .i32⟩
  | .hbm, ⟨40, _⟩ => ⟨S4096x26x2, .i32⟩
  | .hbm, ⟨41, _⟩ => ⟨S4096x26x16, .f32⟩
  | .hbm, ⟨42, _⟩ => ⟨S4096x416, .f32⟩
  | .hbm, ⟨43, _⟩ => ⟨S1x13, .f32⟩
  | .hbm, ⟨44, _⟩ => ⟨S4096x13, .f32⟩
  | .hbm, ⟨45, _⟩ => ⟨S4096x13, .f32⟩
  | .hbm, ⟨46, _⟩ => ⟨S_, .f32⟩
  | .hbm, ⟨47, _⟩ => ⟨S13, .f32⟩
  | .hbm, ⟨48, _⟩ => ⟨S13, .f32⟩
  | .hbm, ⟨49, _⟩ => ⟨S13, .f32⟩
  | .hbm, ⟨50, _⟩ => ⟨S1x13, .f32⟩
  | .hbm, ⟨51, _⟩ => ⟨S4096x13, .f32⟩
  | .hbm, ⟨52, _⟩ => ⟨S4096x13, .f32⟩
  | .hbm, ⟨53, _⟩ => ⟨S1x13, .f32⟩
  | .hbm, ⟨54, _⟩ => ⟨S4096x13, .f32⟩
  | .hbm, ⟨55, _⟩ => ⟨S4096x13, .f32⟩
  | .hbm, ⟨56, _⟩ => ⟨S1x13, .f32⟩
  | .hbm, ⟨57, _⟩ => ⟨S4096x13, .f32⟩
  | .hbm, ⟨58, _⟩ => ⟨S4096x13, .f32⟩
  | .hbm, ⟨59, _⟩ => ⟨S4096x429, .f32⟩
  | .hbm, ⟨60, _⟩ => ⟨S429x256, .f32⟩
  | .hbm, ⟨61, _⟩ => ⟨S4096x256, .f32⟩
  | .hbm, ⟨62, _⟩ => ⟨S1x256, .f32⟩
  | .hbm, ⟨63, _⟩ => ⟨S4096x256, .f32⟩
  | .hbm, ⟨64, _⟩ => ⟨S4096x256, .f32⟩
  | .hbm, ⟨65, _⟩ => ⟨S_, .f32⟩
  | .hbm, ⟨66, _⟩ => ⟨S4096x256, .f32⟩
  | .hbm, ⟨67, _⟩ => ⟨S4096x256, .f32⟩
  | .hbm, ⟨68, _⟩ => ⟨S1x256, .f32⟩
  | .hbm, ⟨69, _⟩ => ⟨S4096x256, .f32⟩
  | .hbm, ⟨70, _⟩ => ⟨S4096x256, .f32⟩
  | .hbm, ⟨71, _⟩ => ⟨S_, .f32⟩
  | .hbm, ⟨72, _⟩ => ⟨S256, .f32⟩
  | .hbm, ⟨73, _⟩ => ⟨S256, .f32⟩
  | .hbm, ⟨74, _⟩ => ⟨S256, .f32⟩
  | .hbm, ⟨75, _⟩ => ⟨S1x256, .f32⟩
  | .hbm, ⟨76, _⟩ => ⟨S4096x256, .f32⟩
  | .hbm, ⟨77, _⟩ => ⟨S4096x256, .f32⟩
  | .hbm, ⟨78, _⟩ => ⟨S1x256, .f32⟩
  | .hbm, ⟨79, _⟩ => ⟨S4096x256, .f32⟩
  | .hbm, ⟨80, _⟩ => ⟨S4096x256, .f32⟩
  | .hbm, ⟨81, _⟩ => ⟨S1x256, .f32⟩
  | .hbm, ⟨82, _⟩ => ⟨S4096x256, .f32⟩
  | .hbm, ⟨83, _⟩ => ⟨S4096x256, .f32⟩
  | .hbm, ⟨84, _⟩ => ⟨S256x128, .f32⟩
  | .hbm, ⟨85, _⟩ => ⟨S4096x128, .f32⟩
  | .hbm, ⟨86, _⟩ => ⟨S1x128, .f32⟩
  | .hbm, ⟨87, _⟩ => ⟨S4096x128, .f32⟩
  | .hbm, ⟨88, _⟩ => ⟨S4096x128, .f32⟩
  | .hbm, ⟨89, _⟩ => ⟨S_, .f32⟩
  | .hbm, ⟨90, _⟩ => ⟨S4096x128, .f32⟩
  | .hbm, ⟨91, _⟩ => ⟨S4096x128, .f32⟩
  | .hbm, ⟨92, _⟩ => ⟨S1x128, .f32⟩
  | .hbm, ⟨93, _⟩ => ⟨S4096x128, .f32⟩
  | .hbm, ⟨94, _⟩ => ⟨S4096x128, .f32⟩
  | .hbm, ⟨95, _⟩ => ⟨S_, .f32⟩
  | .hbm, ⟨96, _⟩ => ⟨S128, .f32⟩
  | .hbm, ⟨97, _⟩ => ⟨S128, .f32⟩
  | .hbm, ⟨98, _⟩ => ⟨S128, .f32⟩
  | .hbm, ⟨99, _⟩ => ⟨S1x128, .f32⟩
  | .hbm, ⟨100, _⟩ => ⟨S4096x128, .f32⟩
  | .hbm, ⟨101, _⟩ => ⟨S4096x128, .f32⟩
  | .hbm, ⟨102, _⟩ => ⟨S1x128, .f32⟩
  | .hbm, ⟨103, _⟩ => ⟨S4096x128, .f32⟩
  | .hbm, ⟨104, _⟩ => ⟨S4096x128, .f32⟩
  | .hbm, ⟨105, _⟩ => ⟨S1x128, .f32⟩
  | .hbm, ⟨106, _⟩ => ⟨S4096x128, .f32⟩
  | .hbm, ⟨107, _⟩ => ⟨S4096x128, .f32⟩
  | .hbm, ⟨108, _⟩ => ⟨S128x1, .f32⟩
  | .hbm, ⟨109, _⟩ => ⟨S4096x1, .f32⟩
  | .hbm, ⟨110, _⟩ => ⟨S1x1, .f32⟩
  | .hbm, ⟨111, _⟩ => ⟨S4096x1, .f32⟩
  | .hbm, ⟨112, _⟩ => ⟨S4096x1, .f32⟩
  | _, _ => ⟨S4096x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_c : Ref sig .tc := ⟨.hbm, 23, rfl⟩
abbrev main_v2 : Ref sig .tc := ⟨.hbm, 24, rfl⟩
abbrev main_v3 : Ref sig .tc := ⟨.hbm, 25, rfl⟩
abbrev main_c_0 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_c_1 : Ref sig .tc := ⟨.hbm, 30, rfl⟩
abbrev main_v7 : Ref sig .tc := ⟨.hbm, 31, rfl⟩
abbrev main_v8 : Ref sig .tc := ⟨.hbm, 32, rfl⟩
abbrev main_c_2 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_cst : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_3 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_4 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_5 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_6 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩

abbrev nD : Nat := 1
abbrev τ : Topo := Topo.v7x

variable {F : FTy → Type} [FloatOps F]
-- ==== Proof.GatherBatch.lean ====
/-
  Several indirect gathers in flight on ONE DMA semaphore. The kernel's tile issues its twenty-six gathers back to
  back on one semaphore and waits for all of them afterwards; until the last wait nothing of any destination may be
  taken. The accounting is row by row: a row of a destination is one transfer of a fixed credit, so a tile's gathers
  are one counted batch of rows, and issuing a gather issues the batch's next rows all at once.
-/
module

public import Idealize.ShloMosaic.Lib.SparseCore.Stream
public import Idealize.ShloMosaic.Lib.Batch

@[expose] public section

noncomputable section

namespace Cert.Proof.GatherBatch

open Idealize.ShloMosaic Idealize.ShloMosaic.SparseCore
open Idealize.SL Idealize.SL.RA Idealize.SL.BI
open scoped Idealize.SL.BI
open Idealize.SL.BI.BIBase Idealize.SL.BI.Laws Idealize.SL.ProofMode Idealize.SL.Sem

section Pending

variable {M : Type} [URA M]

/-- The transfers from `j` to `j + o - 1`, of those still to be issued, and those from `j + o` on. -/
theorem pending_split {n : ℕ} (Φ : Fin n → sProp M) (j : ℕ) :
    ∀ (o : ℕ) (h : j + o ≤ n), bigSep (Transfers.pending j) Φ
      = iprop((bigSep Finset.univ fun k : Fin o => Φ ⟨j + k.val, by omega⟩) ∗ bigSep (Transfers.pending (j + o)) Φ) := by
  classical
  intro o h
  have hinj : Function.Injective (fun k : Fin o => (⟨j + k.val, by omega⟩ : Fin n)) := fun a b hab => by
    have := congrArg Fin.val hab; simp only at this; exact Fin.ext (by omega)
  have hset : Transfers.pending (n := n) j
      = (Finset.univ.map ⟨fun k : Fin o => (⟨j + k.val, by omega⟩ : Fin n), hinj⟩) ∪ Transfers.pending (j + o) := by
    ext t
    simp only [Transfers.pending, Finset.mem_filter, Finset.mem_univ, true_and, Finset.mem_union, Finset.mem_map,
      Function.Embedding.coeFn_mk]
    constructor
    · intro ht
      by_cases h' : j + o ≤ t.val
      · exact Or.inr h'
      · exact Or.inl ⟨⟨t.val - j, by omega⟩, Fin.ext (by simp only; omega)⟩
    · rintro (⟨k, rfl⟩ | ht)
      · simp only; omega
      · omega
  have hdis : Disjoint (Finset.univ.map ⟨fun k : Fin o => (⟨j + k.val, by omega⟩ : Fin n), hinj⟩) (Transfers.pending (j + o)) := by
    refine Finset.disjoint_left.mpr fun t ht ht' => ?_
    simp only [Finset.mem_map, Finset.mem_univ, true_and, Function.Embedding.coeFn_mk] at ht
    obtain ⟨k, rfl⟩ := ht
    simp only [Transfers.pending, Finset.mem_filter, Finset.mem_univ, true_and] at ht'
    omega
  rw [hset, BI.bigSep_union hdis, BI.bigSep_map]
  rfl

end Pending

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

/-- Entry `k` of an offset list, as an index of the list. -/
def entry {o : ℕ} (hn : si.numel = o) (k : Fin o) : si.Idx := si.rowMajor.symm (k.cast hn.symm)

theorem entry_bijective {o : ℕ} (hn : si.numel = o) : Function.Bijective (entry hn) :=
  si.rowMajor.symm.bijective.comp (finCongr hn.symm).bijective

/-- What ROW `j` of a gather delivers: the destination's row written with the source's row the list names, the list's
    entry back, and the row's piece of the source's share back. -/
def rowDone (src : Memref sig c.2.kind sp s₀ e) (dst : Memref sig c.2.kind .vmem s e) (hg : s₀.Gathers a s)
    (offs : Memref sig c.2.kind .vmem si .i32) (hn : si.numel = s.size hg.axis') (hs : 0 < s.numel)
    (q qo : PosShare TreeShare) (fs : Buf (Elt F) (src.view.loc c)) (fd : Buf (Elt F) (dst.view.loc c)) (fo : Buf (Elt F) (offs.view.loc c))
    (r : Fin (s.size hg.axis') → Fin (s₀.size hg.axis)) (j : Fin (s.size hg.axis')) : sProp 𝕄 :=
  iprop(((dst.view.loc c ↦[(dst.view.slice (s.rowRect hg.axis' j)).set]{fullShare}
        ((dst.view.slice (s.rowRect hg.axis' j)).write (Elt F) fd (fun i => src.view.read (Elt F) fs (hg.rowIdx (r j) i)) Finset.univ))
      ∗ (offs.view.loc c ↦[{offs.view.emb (entry hn j)}]{qo} fo))
    ∗ (src.view.loc c ↦[src.view.set]{pieceOf q _ (Shape.size_pos_of_numel_pos hs _) j} fs))

instance rowDone_storable (src : Memref sig c.2.kind sp s₀ e) (dst : Memref sig c.2.kind .vmem s e) (hg : s₀.Gathers a s)
    (offs : Memref sig c.2.kind .vmem si .i32) (hn : si.numel = s.size hg.axis') (hs : 0 < s.numel)
    (q qo : PosShare TreeShare) (fs : Buf (Elt F) (src.view.loc c)) (fd : Buf (Elt F) (dst.view.loc c)) (fo : Buf (Elt F) (offs.view.loc c))
    (r : Fin (s.size hg.axis') → Fin (s₀.size hg.axis)) (j : Fin (s.size hg.axis')) :
    Storable (upEmb : UEmb _ 𝕄) (rowDone c src dst hg offs hn hs q qo fs fd fo r j) := by
  unfold rowDone; infer_instance

/-- All rows of a gather together: the destination written with the gather's payload, the source's share whole and
    the list's share whole. -/
theorem rowsDone_join (src : Memref sig c.2.kind sp s₀ e) (dst : Memref sig c.2.kind .vmem s e) (hg : s₀.Gathers a s)
    (offs : Memref sig c.2.kind .vmem si .i32) (hn : si.numel = s.size hg.axis') (hs : 0 < s.numel)
    (q qo : PosShare TreeShare) (fs : Buf (Elt F) (src.view.loc c)) (fd : Buf (Elt F) (dst.view.loc c)) (fo : Buf (Elt F) (offs.view.loc c))
    (r : Fin (s.size hg.axis') → Fin (s₀.size hg.axis)) :
    bigSep Finset.univ (fun j => rowDone (F := F) (Ix := Ix) (Name := Name) (U := U) (Lvl := Lvl) c src dst hg offs hn hs q qo fs fd fo r j)
      ⊢ iprop((dst.view.loc c ↦[dst.view.set]{fullShare}
              (dst.view.write (Elt F) fd (gatherPayload hg (src.view.read (Elt F) fs) r) Finset.univ))
          ∗ (src.view.loc c ↦[src.view.set]{q} fs) ∗ (offs.view.loc c ↦[offs.view.set]{qo} fo)) := by
  have ho : 0 < s.size hg.axis' := Shape.size_pos_of_numel_pos hs _
  have hW : ∀ (j : Fin (s.size hg.axis')) (i : (s.rowShape hg.axis').Idx), src.view.read (Elt F) fs (hg.rowIdx (r j) i)
      = gatherPayload hg (src.view.read (Elt F) fs) r ((s.rowRect hg.axis' j).emb i) := fun j i => by
    unfold gatherPayload; rw [Shape.Gathers.idx_rowRect_emb]
  have hrows : (bigSep Finset.univ (fun j => (dst.view.loc c ↦[(dst.view.slice (s.rowRect hg.axis' j)).set]{fullShare}
        ((dst.view.slice (s.rowRect hg.axis' j)).write (Elt F) fd (fun i => src.view.read (Elt F) fs (hg.rowIdx (r j) i)) Finset.univ))) : sProp 𝕄)
      ⊢ (dst.view.loc c ↦[dst.view.set]{fullShare}
              (dst.view.write (Elt F) fd (gatherPayload hg (src.view.read (Elt F) fs) r) Finset.univ)) :=
    pointsTo_rows_write c dst.view hg.axis' fd (fun j i => src.view.read (Elt F) fs (hg.rowIdx (r j) i)) _ hW
  unfold rowDone
  iintro HD
  ihave H1 := Transfers.bigSep_sep_out _ _ _ $$ HD
  icases H1 with ⟨H2, Hsrc⟩
  ihave H3 := Transfers.bigSep_sep_out _ _ _ $$ H2
  icases H3 with ⟨Hrows, Hoffs⟩
  isplitl [Hrows]; · iapply hrows $$ Hrows
  isplitl [Hsrc]; · iapply (Entails.of_eq (pointsTo_piecesOf (src.view.set) fs ho q).symm) $$ Hsrc
  iapply (Entails.of_eq (pointsTo_entries c offs.view (entry hn) (entry_bijective hn) qo fo).symm) $$ Hoffs

/-- ISSUING a gather as the next rows of a batch: rows `j … j + o - 1` of the batch, each of credit `N`, `o` the number
    of rows the gather moves. The tile gives up the destination, its share of the list and of the source; each row's
    delivery is the batch's own at that position (`hD`). -/
theorem wp_gatherBatch [Infinite Name] [EC.LandsIn (upEmb : UEmb _ 𝕄)] {n : ℕ}
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    {D : Fin n → sProp 𝕄} {j u : ℕ}
    (ι : Ix) (N : ℕ) (hN : ∀ x, (dst.slice (s.rowRect hg.axis' x) (s.stride_rowRect hg.axis' x)).view.dmaCredit = N)
    (hs : 0 < s.numel) (hin : ∀ x, (offs.view.read (Elt F) fo x).toNat < s₀.size hg.axis)
    (hj : j + s.size hg.axis' ≤ n) (hu : u ≤ j * N)
    (hD : ∀ x : Fin (s.size hg.axis'), rowDone c src dst hg offs hn hs q qo fs fd fo (rows (offs.view.read (Elt F) fo) hn hin) x
        ⊢ D ⟨j + x.val, by omega⟩) :
    iprop((src.view.loc c ↦[src.view.set]{q} fs) ∗ (dst.view.loc c ↦[dst.view.set]{fullShare} fd)
        ∗ (offs.view.loc c ↦[offs.view.set]{qo} fo) ∗ Transfers.Batch EC c (.dma sem) ι N D j u)
      ⊢ iprop((Transfers.Batch EC c (.dma sem) ι N D (j + s.size hg.axis') u -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  have ho : 0 < s.size hg.axis' := Shape.size_pos_of_numel_pos hs _
  let S : Stream nD τ sig (Elt F) :=
    Stream.issued c offs.view hn sem (fun j w => (rowOf (s₀.size hg.axis) w).map (gatherRow c src dst hg sem hsrc he hsp hr j)) 0
  let r : Fin (s.size hg.axis') → Fin (s₀.size hg.axis) := rows (offs.view.read (Elt F) fo) hn hin
  let rd : Fin (s.size hg.axis') → RowDma τ sig (Elt F) c.2 sem := fun j => gatherRow c src dst hg sem hsrc he hsp hr j (r j)
  let qk : Fin (s.size hg.axis') → PosShare TreeShare := pieceOf q _ ho
  let w : (j : Fin (s.size hg.axis')) → (s.rowShape hg.axis').Idx → Elt F e := fun j i => src.view.read (Elt F) fs (hg.rowIdx (r j) i)
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ j, S.row j (S.word fo j) = some (rd j) := fun j => by
    change (rowOf (s₀.size hg.axis) (offs.view.read (Elt F) fo (S.entry j))).map _ = _
    rw [rowOf_of_lt (hin _)]; rfl
  have hsum : ∑ x, (rd x).dst.view.dmaCredit = s.size hg.axis' * N := by
    rw [Finset.sum_congr rfl fun x _ => show (rd x).dst.view.dmaCredit = N from hN x, Finset.sum_const, smul_eq_mul,
      Finset.card_univ, Fintype.card_fin]
  unfold Transfers.Batch
  iintro ⟨Hs, Hd, Ho, ⟨%γ, %γ₀, %κ, #Hinv, HI, H0, Hcred⟩⟩ Hk
  ihave HI' := (Entails.of_eq (pending_split (fun t => count EC (γ t) 0) j (s.size hg.axis') hj)) $$ HI
  icases HI' with ⟨Hγ, HI⟩
  ihave Hd' := (Entails.of_eq (pointsTo_rows c dst.view hg.axis' fullShare fd)) $$ Hd
  ihave Ho' := (Entails.of_eq (pointsTo_entries c offs.view (entry hn) (entry_bijective hn) qo fo)) $$ Ho
  ihave Hs' := (Entails.of_eq (pointsTo_piecesOf (src.view.set) fs ho q)) $$ Hs
  iapply (wp_enqueueIndirectDma 𝒱 c bd Set.univ (qo := qo) (fo := fo) (rd := rd) ι (s.size hg.axis' * N) hA hrd hsum) $$ [Hd' Ho' Hs' Hγ]
  · have hrow : ∀ x : Fin (s.size hg.axis'), iprop(inv κ (Transfers.batchBody EC (c, SemLoc.dma sem) N D γ γ₀)
          ∗ ((((dst.view.loc c ↦[(dst.view.slice (s.rowRect hg.axis' x)).set]{fullShare} fd) ∗ (offs.view.loc c ↦[{offs.view.emb (entry hn x)}]{qo} fo))
          ∗ (src.view.loc c ↦[src.view.set]{qk x} fs)) ∗ count EC (γ ⟨j + x.val, by omega⟩) 0))
        ⊢ iprop(S.heldEntry qo fo x ∗ (S.heldEntry qo fo x -∗ rowRes c (rd x))) := fun x => by
      iintro ⟨#Hinv, ⟨⟨Hr, He⟩, Hsq⟩, Hγj⟩
      isplitl [He]; · iexact He
      iintro He
      unfold rowRes
      iexists qk x, fs, iprop((dst.view.loc c ↦[(dst.view.slice (s.rowRect hg.axis' x)).set]{fullShare} ((dst.view.slice (s.rowRect hg.axis' x)).write (Elt F) fd (w x) Finset.univ)) ∗ S.heldEntry qo fo x)
      isplitl [Hsq]; · iexact Hsq
      isplitl [Hr He]
      · iapply writeUpdate_frame
        isplitl [Hr]
        · iapply (pointsTo_writeUpdate c (v := dst.view.slice (s.rowRect hg.axis' x)) subset_rfl) $$ Hr
        · iexact He
      · have hamt : (rd x).dst.view.amount (.dma sem) = N := (View.amount_dma _ _).trans (hN x)
        rw [hamt]
        iapply (Transfers.batch_creditUpdate EC (N := N) (D := D) (γ := γ) (γ₀ := γ₀) (ι := κ) ⟨j + x.val, by omega⟩ (hD x))
        isplitr; · iexact Hinv
        iexact Hγj
    unfold Stream.res
    ihave H1 := Transfers.bigSep_sep_in _ _ _ $$ [Hd' Ho']; · isplitl [Hd'] <;> iassumption
    ihave H2 := Transfers.bigSep_sep_in _ _ _ $$ [H1 Hs']; · isplitl [H1] <;> iassumption
    ihave H3 := Transfers.bigSep_sep_in _ _ _ $$ [H2 Hγ]; · isplitl [H2] <;> iassumption
    iapply (Transfers.bigSep_mono_pers Finset.univ _ _ _ fun x _ => hrow x)
    isplitr; · iexact Hinv
    iexact H3
  · iintro Hcred'
    iapply Hk
    iexists γ, γ₀, κ
    isplitr; · iexact Hinv
    isplitl [HI]; · iexact HI
    isplitl [H0]; · iexact H0
    rw [show (j + s.size hg.axis') * N - u = (j * N - u) + s.size hg.axis' * N by rw [Nat.add_mul]; omega, ← tallyAt_add]
    icombine Hcred Hcred' as H
    iexact H

end Cert.Proof.GatherBatch

end
-- ==== Proof.TileProg.lean ====
/-
  The SparseCore task's program in a form a proof can count along: its twenty-six gathers and its twenty-six waits as
  two recursions, and the printed body (a straight line of six hundred statements cut into ten windows) shown to be
  fetch the list; the gathers; the waits; write the rows out.
-/
module

public import proofs.«01_k».proof.Proof.GatherBatch
public import Idealize.ShloMosaic.Lib.SparseCore.Ops
public import proofs.«01_k».proof.Proof.Gen.KernelIdeal
public import proofs.«01_k».proof.Proof.Gen.KernelIdeal.Skeleton

@[expose] public section

noncomputable section

namespace Cert.Proof.TileProg

open Cert.KernelIdeal Cert.KernelIdeal.Gen
open Idealize.ShloMosaic Idealize.SL.Sem

variable {F : FTy → Type} [FloatOps F]

theorem inb_rows (j : Fin 26) : ∀ a, (![128 * j.val, 0] : Fin 2 → Nat) a + S128x16.size a ≤ S3328x16.size a := by
  revert j; decide +kernel

theorem inb_list (j : Fin 26) : ∀ a, (![j.val, 0] : Fin 2 → Nat) a + S1x128.size a ≤ S26x128.size a := by
  revert j; decide +kernel

/-- The `j`-th hundred and twenty-eight rows of the row scratch. -/
abbrev rowsK (a : Memref sig .scVector .vmem S3328x16 .f32) (j : Fin 26) : Memref sig .scVector .vmem S128x16 .f32 :=
  a.slice (Rect.unit (s := S3328x16) ![128 * j.val, 0] S128x16.size (inb_rows j)) (fun _ => rfl)

/-- Row `j` of the list scratch, a list of 128 row numbers. -/
abbrev listK (a : Memref sig .scVector .vmem S26x128 .i32) (j : Fin 26) : Memref sig .scVector .vmem S128 .i32 :=
  (a.slice (Rect.unit (s := S26x128) ![j.val, 0] S1x128.size (inb_list j)) (fun _ => rfl)).squeeze S128 squeezes_S1x128_S128

/-- The table as a gather addresses it: all of it. -/
abbrev tabK (a : Memref sig .scVector .hbm S26000000x16 .f32) : Memref sig .scVector .hbm S26000000x16 .f32 :=
  a.slice (Rect.unit (s := S26000000x16) ![0, 0] S26000000x16.size inb_S26000000x16_S26000000x16_0_0) (fun _ => rfl)

/-- The list block of a task, as its fetch addresses it. -/
abbrev idxK (i : grid0.Coords) (a : Memref sig .scVector .hbm S32x26x128 .i32) : Memref sig .scVector .hbm S26x128 .i32 :=
  (a.slice (Rect.unit (s := S32x26x128) (k0_off1 i) S1x26x128.size (k0_off1_inb i)) (fun _ => rfl)).squeeze S26x128 squeezes_S1x26x128_S26x128

/-- The result rows of a task, as its write-out addresses them. -/
abbrev outK (i : grid0.Coords) (a : Memref sig .scVector .hbm S106496x16 .f32) : Memref sig .scVector .hbm S3328x16 .f32 :=
  a.slice (Rect.unit (s := S106496x16) (k0_off2 i) S3328x16.size (k0_off2_inb i)) (fun _ => rfl)

variable (i : grid0.Coords)

/-- A task's programs. -/
abbrev TP (F : FTy → Type) (i : grid0.Coords) := Prog (TpuEff nD τ sig (Elt F) Λ₀ (.scVector ((i 0).castLE hcore0) ((i 1).castLE hsub0))) PUnit

/-- Gather `j`: the table's rows named by row `j` of the list, into the `j`-th rows of the row scratch. -/
def gatherAt (arg2 : Memref sig .scVector .hbm S26000000x16 .f32) (arg5 : Memref sig .scVector .vmem S26x128 .i32)
    (arg6 : Memref sig .scVector .vmem S3328x16 .f32) (arg7 : DmaSems sig S_) (j : Fin 26) : TP F i :=
  SparseCore.enqueueIndirectGather rfl (tabK arg2) (rowsK arg6 j) gathers_S26000000x16_S128x16 (listK arg5 j) rfl arg7.sem (View.wordExact_bits rfl) rfl (Or.inl rfl)

/-- The wait of gather `j`. -/
def waitAt (arg2 : Memref sig .scVector .hbm S26000000x16 .f32) (arg6 : Memref sig .scVector .vmem S3328x16 .f32) (arg7 : DmaSems sig S_) (j : Fin 26) : TP F i :=
  SparseCore.waitIndirectGather arg7.sem (tabK arg2) (rowsK arg6 j) (View.wordExact_bits rfl) (View.wordExact_bits rfl)

/-- The steps `f (26 - n), …, f 25` in order, then `k`. -/
def lastSteps (f : Fin 26 → TP F i) (k : TP F i) : (n : ℕ) → n ≤ 26 → TP F i
  | 0, _ => k
  | n + 1, h => f ⟨25 - n, by omega⟩ >>= fun _ => lastSteps f k n (by omega)

/-- The task: fetch the list block, issue the gathers, wait for them, write the rows out. -/
def task (arg2 : Memref sig .scVector .hbm S26000000x16 .f32) (arg3 : Memref sig .scVector .hbm S32x26x128 .i32)
    (arg4 : Memref sig .scVector .hbm S106496x16 .f32) (arg5 : Memref sig .scVector .vmem S26x128 .i32) (harg5 : arg5.IsWhole)
    (arg6 : Memref sig .scVector .vmem S3328x16 .f32) (harg6 : arg6.IsWhole) (arg7 v211_r0 v211_r1 : DmaSems sig S_) : TP F i := do
  Prog.lift (.enqueueDma (idxK i arg3) (.here arg5) (.dma v211_r0.sem) ((View.wordExact_bits rfl).reshape _ _) harg5.wordExact ⟨Or.inl rfl, trivial⟩)
  Prog.lift (.waitDma2 v211_r0.sem (idxK i arg3) arg5 ((View.wordExact_bits rfl).reshape _ _) harg5.wordExact)
  lastSteps i (gatherAt i arg2 arg5 arg6 arg7)
    (lastSteps i (waitAt i arg2 arg6 arg7) (do
      Prog.lift (.enqueueDma arg6 (.here (outK i arg4)) (.dma v211_r1.sem) harg6.wordExact (View.wordExact_bits rfl) ⟨Or.inl rfl, trivial⟩)
      Prog.lift (.waitDma2 v211_r1.sem arg6 (outK i arg4) harg6.wordExact (View.wordExact_bits rfl))
      pure ⟨⟩) 26 le_rfl) 26 le_rfl

set_option maxRecDepth 100000 in
set_option maxHeartbeats 4000000 in
/-- The printed body is that task. -/
theorem body_eq (arg2 : Memref sig .scVector .hbm S26000000x16 .f32) (harg2 : arg2.IsWhole) (arg3 : Memref sig .scVector .hbm S32x26x128 .i32) (harg3 : arg3.IsWhole)
    (arg4 : Memref sig .scVector .hbm S106496x16 .f32) (harg4 : arg4.IsWhole) (arg5 : Memref sig .scVector .vmem S26x128 .i32) (harg5 : arg5.IsWhole)
    (arg6 : Memref sig .scVector .vmem S3328x16 .f32) (harg6 : arg6.IsWhole) (arg7 v211_r0 v211_r1 : DmaSems sig S_) :
    cc0__sc_gather (F := F) i arg2 harg2 arg3 harg3 arg4 harg4 arg5 harg5 arg6 harg6 arg7 v211_r0 v211_r1
      = task i arg2 arg3 arg4 arg5 harg5 arg6 harg6 arg7 v211_r0 v211_r1 := by
  rfl

end Cert.Proof.TileProg

end
-- ==== Proof.Setup.lean ====
/-
  What the proof's modules share: the program as the launch theorem sees it, the resource algebra (the SparseCore
  handshakes' rounds, the TensorCore pipeline's rounds, the transfers' counters), the three arrays of the SparseCore
  call, and the FUNCTION that call computes: row `r` of its result is the table's row that the list names at `r`.
-/
module

public import proofs.«01_k».proof.Proof.TileProg
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.ValueIdx
public import Idealize.ShloMosaic.Lib.ValueLayout

@[expose] public section

noncomputable section

namespace Cert.Proof.Setup

open Cert.KernelIdeal Cert.KernelIdeal.Gen
open Idealize.ShloMosaic
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

/-- The kernels' labels, lifted through the one TensorCore pipeline. -/
abbrev ΛP : Labels := Pipeline.Sig Λ₀ (Fin 1) fun p => (pcfgs (F := F) p).Adm
/-- The one SparseCore call. -/
abbrev K [FloatOps F] : SparseCore.Cfg τ sig (ΛP (F := F)) 1 := sc (F := F)
theorem nSub_zero [FloatOps F] : (K (F := F)).nSub 0 = 16 := rfl
theorem nCore_zero [FloatOps F] : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := UR sig nD τ
abbrev UU : Type := UH × (UP × Counters)

/-- The certificates' algebra. -/
abbrev MM (F : FTy → Type) : Type := MT nD τ sig (HIx 1) (Elt F) ℕ UU ℕ

local notation "𝕄" => MM F

/-- The handshakes' rounds, -/
abbrev EH : Emb UH 𝕄 := embL
/-- and the pipeline's. -/
abbrev EP : Emb UP 𝕄 := (Emb.inl : Emb UP (UP × Counters)).trans embR

instance EP_landsIn : (EP (F := F)).LandsIn (upEmb : UEmb _ 𝕄) := by infer_instance

/-! ## The arrays of the SparseCore call -/

/-- The list of row numbers, the table and the result, in the chip's memory. -/
abbrev iLoc (d : Dev nD) : Loc nD τ sig := (SparseCore.T d).loc main_v6
abbrev tLoc (d : Dev nD) : Loc nD τ sig := (SparseCore.T d).loc main_v7
abbrev oLoc (d : Dev nD) : Loc nD τ sig := (SparseCore.T d).loc main_v8

/-! ## What the call computes -/

/-- Row number of the table at a word (taken modulo the table's rows, so that it is defined at every word). -/
def rowOfWord (w : BitVec 32) : Fin 26000000 := ⟨w.toNat % 26000000, Nat.mod_lt _ (by decide)⟩

theorem rowOfWord_val {w : BitVec 32} (h : w.toNat < 26000000) : (rowOfWord w).val = w.toNat := Nat.mod_eq_of_lt h

/-- The rows a list of 26 times 128 row numbers names, in order. -/
def takeRows (tab : S26000000x16.Idx → Elt F .f32) (l : S26x128.Idx → BitVec 32) : S3328x16.Idx → Elt F .f32 := fun p =>
  tab (ix2 (rowOfWord (l (ix2 (n0 := 26) (n1 := 128) ⟨(p 0).val / 128, by have := idx2_lt0 p; omega⟩ ⟨(p 0).val % 128, Nat.mod_lt _ (by decide)⟩))) (p 1))

/-- Block `w` of the thirty-two blocks of row numbers. -/
def listBlock (ix : S32x26x128.Idx → BitVec 32) (w : Fin 32) : S26x128.Idx → BitVec 32 := fun p => ix (ix3 w (p 0) (p 1))

/-- The call's result: block after block, the rows the block's list names. -/
def gathered (tab : S26000000x16.Idx → Elt F .f32) (ix : S32x26x128.Idx → BitVec 32) : S106496x16.Idx → Elt F .f32 := fun p =>
  takeRows tab (listBlock ix ⟨(p 0).val / 3328, by have := idx2_lt0 p; omega⟩)
    (ix2 (n0 := 3328) (n1 := 16) ⟨(p 0).val % 3328, Nat.mod_lt _ (by decide)⟩ (p 1))

end Cert.Proof.Setup

end
-- ==== Proof.Places.lean ====
/-
  Where the task's windows lie: the rows scratch in its twenty-six runs of 128 rows, the list scratch in its rows, the
  task's block of the list array and of the result; and what a gather's payload is in those terms.
-/
module

public import proofs.«01_k».proof.Proof.Setup

@[expose] public section

noncomputable section

namespace Cert.Proof.Places

open Cert.KernelIdeal Cert.KernelIdeal.Gen Cert.Proof.Setup Cert.Proof.TileProg
open Idealize.ShloMosaic
open Idealize.ShloMosaic.ValueIdx

variable {F : FTy → Type}

/-- The arrays and the scratch of a task, whole. -/
abbrev tV : Memref sig .scVector .hbm S26000000x16 .f32 := Memref.whole main_v7_scv
abbrev iV : Memref sig .scVector .hbm S32x26x128 .i32 := Memref.whole main_v6_scv
abbrev oV : Memref sig .scVector .hbm S106496x16 .f32 := Memref.whole main_v8_scv
abbrev sV : Memref sig .scVector .vmem S26x128 .i32 := Memref.whole cc0_scratch0
abbrev rV : Memref sig .scVector .vmem S3328x16 .f32 := Memref.whole cc0_scratch1

/-- The task's number among the thirty-two. -/
def wid (L : grid0.Coords) : Fin 32 := ⟨2 * (L 1).val + (L 0).val, by
  have h0 : (L 0).val < 2 := (L 0).isLt
  have h1 : (L 1).val < 16 := (L 1).isLt
  omega⟩

/-! ## The windows' placements -/

theorem rowsK_emb (j : Fin 26) (x : S128x16.Idx) :
    (rowsK rV j).view.emb x = ix2 (n0 := 3328) (n1 := 16) ⟨128 * j.val + (x 0).val, by have := idx2_lt0 x; omega⟩ (x 1) := by
  funext a
  match a with
  | ⟨0, _⟩ => exact Fin.ext (show 128 * j.val + 1 * (x 0).val = 128 * j.val + (x 0).val by omega)
  | ⟨1, _⟩ => exact Fin.ext (show 0 + 1 * (x 1).val = (x 1).val by omega)

theorem listK_emb (j : Fin 26) (x : S128.Idx) : (listK sV j).view.emb x = ix2 (n0 := 26) (n1 := 128) j (x 0) := by
  have h1 : Shape.reshapeEquiv (s := S1x128) (s' := S128) squeezes_S1x128_S128.numel_eq x = ix2 (n0 := 1) (n1 := 128) ⟨0, Nat.one_pos⟩ (x 0) :=
    Shape.reshapeEquiv_eq_of_rowMajor _ (by
      rw [Shape.rowMajor_val_two, Shape.rowMajor_val_one]
      show 0 * 128 + (x 0).val = (x 0).val
      omega)
  show (Rect.unit (s := S26x128) ![j.val, 0] S1x128.size (inb_list j)).emb (Shape.reshapeEquiv (s := S1x128) (s' := S128) squeezes_S1x128_S128.numel_eq x) = _
  rw [h1]
  funext a
  match a with
  | ⟨0, _⟩ => exact Fin.ext (show j.val + 1 * 0 = j.val by omega)
  | ⟨1, _⟩ => exact Fin.ext (show 0 + 1 * (x 0).val = (x 0).val by omega)

theorem tabK_emb (x : S26000000x16.Idx) : (tabK tV).view.emb x = x := by
  funext a
  match a with
  | ⟨0, _⟩ => exact Fin.ext (show 0 + 1 * (x 0).val = (x 0).val by omega)
  | ⟨1, _⟩ => exact Fin.ext (show 0 + 1 * (x 1).val = (x 1).val by omega)

theorem idxK_emb (L : grid0.Coords) (p : S26x128.Idx) : (idxK L iV).view.emb p = ix3 (n0 := 32) (n1 := 26) (n2 := 128) (wid L) (p 0) (p 1) := by
  have h1 : Shape.reshapeEquiv (s := S1x26x128) (s' := S26x128) squeezes_S1x26x128_S26x128.numel_eq p = ix3 (n0 := 1) (n1 := 26) (n2 := 128) ⟨0, Nat.one_pos⟩ (p 0) (p 1) := by
    rw [eq_ix2 (n0 := 26) (n1 := 128) p]; exact reshapeEquiv_ix2_1ab _ _ _
  show (Rect.unit (s := S32x26x128) (k0_off1 L) S1x26x128.size (k0_off1_inb L)).emb (Shape.reshapeEquiv (s := S1x26x128) (s' := S26x128) squeezes_S1x26x128_S26x128.numel_eq p) = _
  rw [h1]
  have ho := k0_off1_eq L
  funext a
  match a with
  | ⟨0, _⟩ => exact Fin.ext (show k0_off1 L 0 + 1 * 0 = (wid L).val by rw [ho]; rfl)
  | ⟨1, _⟩ => exact Fin.ext (show k0_off1 L 1 + 1 * (p 0).val = (p 0).val by rw [ho]; show 0 + 1 * (p 0).val = _; omega)
  | ⟨2, _⟩ => exact Fin.ext (show k0_off1 L 2 + 1 * (p 1).val = (p 1).val by rw [ho]; show 0 + 1 * (p 1).val = _; omega)

theorem outK_emb (L : grid0.Coords) (p : S3328x16.Idx) :
    (outK L oV).view.emb p = ix2 (n0 := 106496) (n1 := 16) ⟨3328 * (wid L).val + (p 0).val, by have := idx2_lt0 p; have := (wid L).isLt; omega⟩ (p 1) := by
  have ho := k0_off2_eq L
  funext a
  match a with
  | ⟨0, _⟩ => exact Fin.ext (show k0_off2 L 0 + 1 * (p 0).val = 3328 * (2 * (L 1).val + (L 0).val) + (p 0).val by
      rw [ho]; show 6656 * (L 1).val + 3328 * (L 0).val + 1 * (p 0).val = _; omega)
  | ⟨1, _⟩ => exact Fin.ext (show k0_off2 L 1 + 1 * (p 1).val = (p 1).val by rw [ho]; show 0 + 1 * (p 1).val = _; omega)

/-! ## The windows' element sets -/

theorem mem_rowsK (j : Fin 26) (p : S3328x16.Idx) : p ∈ (rowsK rV j).view.set ↔ (p 0).val / 128 = j.val := by
  constructor
  · intro h
    obtain ⟨x, -, rfl⟩ := Finset.mem_map.mp h
    rw [rowsK_emb]
    have := idx2_lt0 x
    show (128 * j.val + (x 0).val) / 128 = j.val
    omega
  · intro h
    refine Finset.mem_map.mpr ⟨ix2 (n0 := 128) (n1 := 16) ⟨(p 0).val % 128, Nat.mod_lt _ (by decide)⟩ (p 1), Finset.mem_univ _, ?_⟩
    rw [rowsK_emb]
    funext a
    match a with
    | ⟨0, _⟩ => exact Fin.ext (show 128 * j.val + (p 0).val % 128 = (p 0).val by omega)
    | ⟨1, _⟩ => rfl

theorem mem_listK (j : Fin 26) (p : S26x128.Idx) : p ∈ (listK sV j).view.set ↔ (p 0).val = j.val := by
  constructor
  · intro h
    obtain ⟨x, -, rfl⟩ := Finset.mem_map.mp h
    rw [listK_emb]
  · intro h
    refine Finset.mem_map.mpr ⟨ix1 (n := 128) (p 1), Finset.mem_univ _, ?_⟩
    rw [listK_emb]
    funext a
    match a with
    | ⟨0, _⟩ => exact Fin.ext h.symm
    | ⟨1, _⟩ => rfl

theorem mem_idxK (L : grid0.Coords) (p : S32x26x128.Idx) : p ∈ (idxK L iV).view.set ↔ (p 0).val = (wid L).val := by
  constructor
  · intro h
    obtain ⟨x, -, rfl⟩ := Finset.mem_map.mp h
    rw [idxK_emb]
  · intro h
    refine Finset.mem_map.mpr ⟨ix2 (n0 := 26) (n1 := 128) (p 1) (p 2), Finset.mem_univ _, ?_⟩
    rw [idxK_emb]
    funext a
    match a with
    | ⟨0, _⟩ => exact Fin.ext h.symm
    | ⟨1, _⟩ => rfl
    | ⟨2, _⟩ => rfl

theorem mem_outK (L : grid0.Coords) (p : S106496x16.Idx) : p ∈ (outK L oV).view.set ↔ (p 0).val / 3328 = (wid L).val := by
  constructor
  · intro h
    obtain ⟨x, -, rfl⟩ := Finset.mem_map.mp h
    rw [outK_emb]
    have := idx2_lt0 x
    show (3328 * (wid L).val + (x 0).val) / 3328 = (wid L).val
    omega
  · intro h
    refine Finset.mem_map.mpr ⟨ix2 (n0 := 3328) (n1 := 16) ⟨(p 0).val % 3328, Nat.mod_lt _ (by decide)⟩ (p 1), Finset.mem_univ _, ?_⟩
    rw [outK_emb]
    funext a
    match a with
    | ⟨0, _⟩ => exact Fin.ext (show 3328 * (wid L).val + (p 0).val % 3328 = (p 0).val by omega)
    | ⟨1, _⟩ => rfl

/-- The scratch runs and the list rows, as sets of places of their buffers. -/
abbrev rowsSet (j : Fin 26) : Finset S3328x16.Idx := (rowsK rV j).view.set
abbrev listSet (j : Fin 26) : Finset S26x128.Idx := (listK sV j).view.set

theorem rowsK_disjoint : ∀ i ∈ (Finset.univ : Finset (Fin 26)), ∀ j ∈ (Finset.univ : Finset (Fin 26)), i ≠ j →
    Disjoint (rowsSet i) (rowsSet j) :=
  fun i _ j _ h => Finset.disjoint_left.mpr fun p hi hj => h (Fin.ext (((mem_rowsK i p).mp hi).symm.trans ((mem_rowsK j p).mp hj)))

theorem listK_disjoint : ∀ i ∈ (Finset.univ : Finset (Fin 26)), ∀ j ∈ (Finset.univ : Finset (Fin 26)), i ≠ j →
    Disjoint (listSet i) (listSet j) :=
  fun i _ j _ h => Finset.disjoint_left.mpr fun p hi hj => h (Fin.ext (((mem_listK i p).mp hi).symm.trans ((mem_listK j p).mp hj)))

theorem rowsK_cover : (Finset.univ : Finset (Fin 26)).biUnion rowsSet = Finset.univ := by
  refine Finset.eq_univ_iff_forall.mpr fun (p : S3328x16.Idx) => ?_
  refine Finset.mem_biUnion.mpr ⟨⟨(p 0).val / 128, by have := idx2_lt0 p; omega⟩, Finset.mem_univ _, (mem_rowsK _ p).mpr rfl⟩

theorem listK_cover : (Finset.univ : Finset (Fin 26)).biUnion listSet = Finset.univ := by
  refine Finset.eq_univ_iff_forall.mpr fun (p : S26x128.Idx) => ?_
  exact Finset.mem_biUnion.mpr ⟨p 0, Finset.mem_univ _, (mem_listK _ p).mpr rfl⟩

theorem tabK_set : (tabK tV).view.set = Finset.univ :=
  Finset.eq_univ_iff_forall.mpr fun (p : S26000000x16.Idx) => Finset.mem_map.mpr ⟨p, Finset.mem_univ _, tabK_emb p⟩

/-! ## What the windows read -/

theorem listK_read (j : Fin 26) (l : S26x128.Idx → BitVec 32) (x : S128.Idx) :
    (listK sV j).view.read (Elt F) l x = l (ix2 (n0 := 26) (n1 := 128) j (x 0)) :=
  congrArg l (listK_emb j x)

theorem tabK_read (tab : S26000000x16.Idx → Elt F .f32) (x : S26000000x16.Idx) : (tabK tV).view.read (Elt F) tab x = tab x :=
  congrArg tab (tabK_emb x)

theorem idxK_read (L : grid0.Coords) (ix : S32x26x128.Idx → BitVec 32) : (idxK L iV).view.read (Elt F) ix = listBlock ix (wid L) :=
  funext fun p => congrArg ix (idxK_emb L p)

/-- A list whose words are rows of the table names rows in range. -/
theorem list_inb (l : S26x128.Idx → BitVec 32) (hl : ∀ p, (l p).toNat < 26000000) (j : Fin 26) :
    ∀ x, ((listK sV j).view.read (Elt F) l x).toNat < S26000000x16.size gathers_S26000000x16_S128x16.axis := fun x => by
  rw [listK_read]; exact hl _

/-- What gather `j` lands in its rows of the scratch is the list's rows of the table. -/
theorem landed (tab : S26000000x16.Idx → Elt F .f32) (l : S26x128.Idx → BitVec 32) (hl : ∀ p, (l p).toNat < 26000000) (j : Fin 26)
    (fd : S3328x16.Idx → Elt F .f32) :
    ∀ p ∈ (rowsK rV j).view.set,
      (rowsK rV j).view.write (Elt F) fd (SparseCore.gatherPayload gathers_S26000000x16_S128x16 ((tabK tV).view.read (Elt F) tab)
        (SparseCore.rows ((listK sV j).view.read (Elt F) l) rfl (list_inb l hl j))) Finset.univ p
      = takeRows tab l p := by
  intro p hp
  obtain ⟨x, -, rfl⟩ := Finset.mem_map.mp hp
  rw [View.write_emb_of_mem _ _ (Finset.mem_univ x)]
  refine (cast_eq _ _).trans ?_
  show (tabK tV).view.read (Elt F) tab _ = _
  rw [tabK_read, rowsK_emb]
  unfold takeRows
  refine congrArg tab ?_
  have hx := idx2_lt0 x
  have hw : SparseCore.rows ((listK sV j).view.read (Elt F) l) (rfl : S128.numel = 128) (list_inb l hl j) (x 0)
      = rowOfWord (l (ix2 (n0 := 26) (n1 := 128) j (x 0))) := by
    refine Fin.ext ?_
    rw [rowOfWord_val (hl _)]
    show ((listK sV j).view.read (Elt F) l _).toNat = _
    rw [listK_read]
    have h0 : (S128.rowMajor.symm ((x 0).cast (rfl : S128.numel = 128).symm)) = ix1 (n := 128) (x 0) := by
      rw [Equiv.symm_apply_eq]
      exact Fin.ext (by rw [Shape.rowMajor_val_one]; rfl)
    rw [h0]
  funext a
  match a with
  | ⟨0, _⟩ =>
    show SparseCore.rows ((listK sV j).view.read (Elt F) l) (rfl : S128.numel = 128) (list_inb l hl j) (x 0) = _
    rw [hw]
    congr 3
    · exact Fin.ext (show j.val = (128 * j.val + (x 0).val) / 128 by omega)
    · exact Fin.ext (show (x 0).val = (128 * j.val + (x 0).val) % 128 by omega)
  | ⟨1, _⟩ => rfl

/-- What the write-out lands in the task's rows of the result is the call's function there. -/
theorem written (tab : S26000000x16.Idx → Elt F .f32) (ix : S32x26x128.Idx → BitVec 32) (L : grid0.Coords) (fo : S106496x16.Idx → Elt F .f32) :
    ∀ p ∈ (outK L oV).view.set, (outK L oV).view.write (Elt F) fo (takeRows tab (listBlock ix (wid L))) Finset.univ p = gathered tab ix p := by
  intro p hp
  obtain ⟨x, -, rfl⟩ := Finset.mem_map.mp hp
  rw [View.write_emb_of_mem _ _ (Finset.mem_univ x)]
  refine (cast_eq _ _).trans ?_
  rw [outK_emb]
  unfold gathered
  have hx := idx2_lt0 x
  have e1 : (⟨(3328 * (wid L).val + (x 0).val) / 3328, by have := (wid L).isLt; omega⟩ : Fin 32) = wid L := Fin.ext (by simp only; omega)
  have e2 : (⟨(3328 * (wid L).val + (x 0).val) % 3328, Nat.mod_lt _ (by decide)⟩ : Fin 3328) = x 0 := Fin.ext (by simp only; omega)
  show _ = takeRows tab (listBlock ix ⟨(3328 * (wid L).val + (x 0).val) / 3328, _⟩) (ix2 ⟨(3328 * (wid L).val + (x 0).val) % 3328, _⟩ (x 1))
  rw [e1, e2]
  exact congrArg (takeRows tab (listBlock ix (wid L))) (eq_ix2 (n0 := 3328) (n1 := 16) x)

/-- The same of the write-out as one piece, the whole of its rows. -/
theorem written_piece (tab : S26000000x16.Idx → Elt F .f32) (ix : S32x26x128.Idx → BitVec 32) (L : grid0.Coords) (fo : S106496x16.Idx → Elt F .f32) :
    ∀ p ∈ (outK L oV).view.set,
      (outK L oV).view.writes (Elt F) fo [⟨Rect.whole S3328x16, takeRows tab (listBlock ix (wid L))⟩] p = gathered tab ix p := by
  intro p hp
  rw [← written tab ix L fo p hp]
  obtain ⟨x, -, rfl⟩ := Finset.mem_map.mp hp
  rw [View.write_emb_of_mem _ _ (Finset.mem_univ x), View.writes_singleton]
  have he : (outK L oV).view.emb x = ((outK L oV).view.slice (Rect.whole S3328x16)).emb x :=
    congrArg (outK L oV).view.emb (Rect.emb_whole_apply S3328x16 x).symm
  rw [he, View.write_emb_of_mem _ _ (Finset.mem_univ _)]

end Cert.Proof.Places

end
-- ==== Proof.Gathers.lean ====
/-
  The twenty-six gathers of a task and their waits, by induction along the task's two recursions: issued one after
  another as one counted batch of 26 times 128 rows, waited for with nothing handed back, collected whole at the end.
-/
module

public import proofs.«01_k».proof.Proof.Places

@[expose] public section

noncomputable section

namespace Cert.Proof.Gathers

open Cert.KernelIdeal Cert.KernelIdeal.Gen Cert.Proof.Setup Cert.Proof.TileProg Cert.Proof.Places Cert.Proof.GatherBatch
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F]

local notation "𝕄" => MM F

variable (d : Dev nD) (L : grid0.Coords)

/-- The task's subcore. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- What one row of a gather credits. -/
abbrev rowN : ℕ := ((rowsK rV 0).slice (S128x16.rowRect 0 ⟨0, by decide⟩) (S128x16.stride_rowRect 0 ⟨0, by decide⟩)).view.dmaCredit

theorem rowN_pos : 0 < rowN := View.dmaCredit_pos _ (by decide)

section Batch

variable (q : PosShare TreeShare) (tab : S26000000x16.Idx → Elt F .f32) (l : S26x128.Idx → BitVec 32) (hl : ∀ p, (l p).toNat < 26000000)
  (fr : S3328x16.Idx → Elt F .f32)

/-- The table's share gather `j` reads under. -/
abbrev tq (q : PosShare TreeShare) (j : Fin 26) : PosShare TreeShare := pieceOf q 26 (by decide) j

/-- What row `x` of gather `j` delivers. -/
def delivered (j : Fin 26) (x : Fin 128) : sProp 𝕄 :=
  rowDone (F := F) (Ix := HIx 1) (Name := ℕ) (U := UU) (Lvl := ℕ) (thr d L) (tabK tV) (rowsK rV j) gathers_S26000000x16_S128x16 (listK sV j) rfl (by decide)
    (tq q j) fullShare tab fr l (SparseCore.rows ((listK sV j).view.read (Elt F) l) rfl (list_inb (F := F) l hl j)) x

/-- The batch's deliveries, in the order of issue. -/
def DD (t : Fin (26 * 128)) : sProp 𝕄 :=
  delivered d L q tab l hl fr ⟨t.val / 128, by omega⟩ ⟨t.val % 128, Nat.mod_lt _ (by decide)⟩

instance DD_storable (t : Fin (26 * 128)) : Storable (upEmb : UEmb _ 𝕄) (DD d L q tab l hl fr t) := by
  unfold DD delivered; exact rowDone_storable ..

theorem DD_at (j : Fin 26) (x : Fin 128) (h : 128 * j.val + x.val < 26 * 128) :
    DD d L q tab l hl fr ⟨128 * j.val + x.val, h⟩ = delivered d L q tab l hl fr j x := by
  unfold DD
  have e1 : (⟨(128 * j.val + x.val) / 128, by omega⟩ : Fin 26) = j := Fin.ext (by simp only; omega)
  have e2 : (⟨(128 * j.val + x.val) % 128, Nat.mod_lt _ (by decide)⟩ : Fin 128) = x := Fin.ext (by simp only; omega)
  show delivered d L q tab l hl fr ⟨(128 * j.val + x.val) / 128, _⟩ ⟨(128 * j.val + x.val) % 128, _⟩ = _
  rw [e1, e2]

/-- What gather `j` is issued from: a share of the table, its rows of the scratch, its row of the list. -/
def toGive (j : Fin 26) : sProp 𝕄 :=
  iprop(((tabK tV).view.loc (thr d L) ↦[(tabK tV).view.set]{tq q j} tab) ∗ ((rowsK rV j).view.loc (thr d L) ↦[(rowsK rV j).view.set]{fullShare} fr)
    ∗ ((listK sV j).view.loc (thr d L) ↦[(listK sV j).view.set]{fullShare} l))

/-- The batch on the gathers' semaphore. -/
abbrev theBatch (j u : ℕ) : sProp 𝕄 :=
  Transfers.Batch (countersEmb : UEmb Counters 𝕄) (thr d L) (.dma cc0_scratch2.sem) (default : HIx 1) rowN (DD d L q tab l hl fr) j u

theorem credit_row (j : Fin 26) (x : Fin 128) :
    ((rowsK rV j).slice (S128x16.rowRect 0 x) (S128x16.stride_rowRect 0 x)).view.dmaCredit = rowN := rfl

theorem credit_gather (j : Fin 26) : (rowsK rV j).view.dmaCredit = 128 * rowN := by
  have : (rowsK rV 0).view.dmaCredit = 128 * rowN := by decide +kernel
  exact this

theorem row_delivers (j : Fin 26) (x : Fin 128) (h : 128 * j.val + x.val < 26 * 128) :
    rowDone (F := F) (Ix := HIx 1) (Name := ℕ) (U := UU) (Lvl := ℕ) (thr d L) (tabK tV) (rowsK rV j) gathers_S26000000x16_S128x16 (listK sV j) rfl (by decide)
      (tq q j) fullShare tab fr l (SparseCore.rows ((listK sV j).view.read (Elt F) l) rfl (list_inb (F := F) l hl j)) x
      ⊢ DD d L q tab l hl fr ⟨128 * j.val + x.val, h⟩ := by
  rw [DD_at]; exact Entails.rfl

/-- ONE ISSUE, gather `j`'s. -/
theorem wp_issue (j : Fin 26) (k : TP F L) (Q : PUnit → sProp 𝕄) :
    iprop(toGive d L q tab l fr j ∗ theBatch d L q tab l hl fr (128 * j.val) 0)
      ⊢ iprop((theBatch d L q tab l hl fr (128 * j.val + 128) 0 -∗ wp frame (wpE (defs₀ (F := F)) 𝒱₀ (thr d L) none) Set.univ k Q)
          -∗ wp frame (wpE (defs₀ (F := F)) 𝒱₀ (thr d L) none) Set.univ (gatherAt L tV sV rV cc0_scratch2 j >>= fun _ => k) Q) := by
  have hj : 128 * j.val + 128 ≤ 26 * 128 := by have := j.isLt; omega
  have hD : ∀ x : Fin 128, _ := fun x => row_delivers d L q tab l hl fr j x (by have := x.isLt; omega)
  unfold toGive gatherAt
  have H := (wp_gatherBatch (Q := Q) (countersEmb : UEmb Counters 𝕄) (defs := defs₀ (F := F)) 𝒱₀ (thr d L) none (k := fun _ => k) (n := 26 * 128) (D := DD d L q tab l hl fr) (u := 0) (j := 128 * j.val)
    (src := tabK tV) (dst := rowsK rV j) (offs := listK sV j) (hg := gathers_S26000000x16_S128x16) (hn := rfl) (sem := cc0_scratch2.sem) (hp := rfl) (hsrc := View.wordExact_bits rfl) (he := rfl) (hsp := Or.inl rfl) (hr := by decide)
    (q := tq q j) (qo := fullShare) (fs := tab) (fd := fr) (fo := l)
    (default : HIx 1) rowN (credit_row j) (by decide) (list_inb (F := F) l hl j) hj (Nat.zero_le _) hD)
  refine BIBase.Entails.trans ?_ (H.trans ?_)
  · iintro ⟨⟨Ht, Hr, Hl⟩, HB⟩
    isplitl [Ht]; · iexact Ht
    isplitl [Hr]; · iexact Hr
    isplitl [Hl]; · iexact Hl
    iexact HB
  · iintro Hw Hk
    iapply Hw
    iintro HB
    iapply Hk
    iexact HB

/-- THE ISSUES from gather `26 - n` on. -/
theorem wp_issues (k : TP F L) (Q : PUnit → sProp 𝕄) : ∀ (n : ℕ) (h : n ≤ 26),
    iprop(bigSep (Transfers.pending (26 - n)) (toGive d L q tab l fr) ∗ theBatch d L q tab l hl fr (128 * (26 - n)) 0)
      ⊢ iprop((theBatch d L q tab l hl fr (26 * 128) 0 -∗ wp frame (wpE (defs₀ (F := F)) 𝒱₀ (thr d L) none) Set.univ k Q)
          -∗ wp frame (wpE (defs₀ (F := F)) 𝒱₀ (thr d L) none) Set.univ (lastSteps L (gatherAt L tV sV rV cc0_scratch2) k n h) Q) := by
  intro n
  induction n with
  | zero =>
    intro _
    show iprop(_ ∗ theBatch d L q tab l hl fr (26 * 128) 0) ⊢ iprop((_ -∗ wp frame _ Set.univ k Q) -∗ wp frame _ Set.univ k Q)
    iintro ⟨-, HB⟩ Hk
    iapply Hk; iexact HB
  | succ n ih =>
    intro h
    have hk : 26 - (n + 1) < 26 := by omega
    have hlt : 25 - n < 26 := by omega
    have hle : n ≤ 26 := by omega
    have e1 : 26 - (n + 1) = 25 - n := by omega
    have e2 : 26 - (n + 1) + 1 = 26 - n := by omega
    have e3 : (⟨26 - (n + 1), hk⟩ : Fin 26) = ⟨25 - n, by omega⟩ := Fin.ext e1
    have e4 : 128 * (⟨25 - n, by omega⟩ : Fin 26).val + 128 = 128 * (26 - n) := by show 128 * (25 - n) + 128 = _; omega
    have e5 : 128 * (26 - (n + 1)) = 128 * (⟨25 - n, by omega⟩ : Fin 26).val := by show _ = 128 * (25 - n); omega
    have e6 : lastSteps L (gatherAt (F := F) L tV sV rV cc0_scratch2) k (n + 1) h
        = gatherAt L tV sV rV cc0_scratch2 ⟨25 - n, by omega⟩ >>= fun _ => lastSteps L (gatherAt L tV sV rV cc0_scratch2) k n (by omega) := rfl
    rw [Transfers.bigSep_pending_step _ _ hk, e2, e3, e5, e6]
    iintro ⟨⟨Hg, Hrest⟩, HB⟩ Hk
    iapply (wp_issue d L q tab l hl fr ⟨25 - n, hlt⟩) $$ [Hg HB]
    · iframe
    iintro HB
    rw [e4]
    iapply (ih hle) $$ [Hrest HB]
    · isplitl [Hrest]; · iexact Hrest
      iexact HB
    iexact Hk

set_option maxHeartbeats 400000 in
/-- THE WAITS from gather `26 - n`'s on: nothing comes back at any of them. -/
theorem wp_waits (O : CellTallies nD τ sig (HIx 1)) (W : Waits sig (HIx 1)) (k : TP F L) (Q : PUnit → sProp 𝕄) :
    ∀ (n : ℕ) (h : n ≤ 26) (W₀ : Waits sig (HIx 1)), (∀ p ∈ W₀, p ∈ W ∨ p.2 = none) →
    iprop(theBatch d L q tab l hl fr (26 * 128) (128 * (26 - n) * rowN) ∗ owes (thr d L) O W₀ ∗ Transfers.MayWaits (thr d L) (default : HIx 1) O)
      ⊢ iprop((iprop(theBatch d L q tab l hl fr (26 * 128) (rowN * (26 * 128)) ∗ ∃ W', ⌜∀ p ∈ W', p ∈ W ∨ p.2 = none⌝ ∗ owes (thr d L) O W')
            -∗ wp frame (wpE (defs₀ (F := F)) 𝒱₀ (thr d L) none) Set.univ k Q)
          -∗ wp frame (wpE (defs₀ (F := F)) 𝒱₀ (thr d L) none) Set.univ (lastSteps L (waitAt L tV rV cc0_scratch2) k n h) Q) := by
  intro n
  induction n with
  | zero =>
    intro _ W₀ hW
    show iprop(theBatch d L q tab l hl fr (26 * 128) (128 * 26 * rowN) ∗ _ ∗ _) ⊢ iprop((_ -∗ wp frame _ Set.univ k Q) -∗ wp frame _ Set.univ k Q)
    rw [show 128 * 26 * rowN = rowN * (26 * 128) by rw [Nat.mul_comm]]
    iintro ⟨HB, HO, -⟩ Hk
    iapply Hk
    isplitl [HB]; · iexact HB
    iexists W₀; isplitr; · ipureintro; exact hW
    iexact HO
  | succ n ih =>
    intro h W₀ hW
    have e1 : 26 - (n + 1) = 25 - n := by omega
    have hlt : 25 - n < 26 := by omega
    have hle : n ≤ 26 := by omega
    have hcap : 128 * (25 - n) * rowN + 128 * rowN ≤ rowN * (26 * 128) := by
      rw [← Nat.add_mul, Nat.mul_comm]; exact Nat.mul_le_mul_left _ (by omega)
    show _ ⊢ iprop(_ -∗ wp frame _ Set.univ (waitAt L tV rV cc0_scratch2 ⟨25 - n, by omega⟩ >>= fun _ => lastSteps L (waitAt L tV rV cc0_scratch2) k n (by omega)) Q)
    rw [e1]
    iintro ⟨HB, HO, #Hmw⟩ Hk
    unfold waitAt
    simp only [SparseCore.waitIndirectGather_bind]
    iapply (Transfers.wp_waitBatchMulO (countersEmb : UEmb Counters 𝕄) 𝒱₀ (thr d L) none (default : HIx 1) 128 (credit_gather ⟨25 - n, hlt⟩) hcap) $$ [HB HO]
    · isplitl [HB]; · iexact HB
      isplitl [HO]; · iexact HO
      iapply (Transfers.MayWaits.elim (SemLoc.dma cc0_scratch2.sem)) $$ Hmw
    iintro ⟨HB, HO⟩
    have e4 : 128 * (25 - n) * rowN + 128 * rowN = 128 * (26 - n) * rowN := by rw [← Nat.add_mul]; congr 1; omega
    rw [e4]
    have hW' : ∀ p ∈ insert ((SemLoc.dma cc0_scratch2.sem : SemLoc sig), (default : HIx 1)) W₀, p ∈ W ∨ p.2 = none := fun p hp => by
      rcases Finset.mem_insert.mp hp with hp | hp
      · exact .inr (hp ▸ rfl)
      · exact hW p hp
    iapply (ih hle _ hW') $$ [HB HO]
    · isplitl [HB]; · iexact HB
      isplitl [HO]; · iexact HO
      iexact Hmw
    iexact Hk

end Batch

end Cert.Proof.Gathers

end
-- ==== Proof.GatherRun.lean ====
/-
  The gathers of a task as one step: from the table's share, the list and the row scratch at anything, the task
  issues and waits, and holds the row scratch at the rows the list names.
-/
module

public import proofs.«01_k».proof.Proof.Gathers

@[expose] public section

noncomputable section

namespace Cert.Proof.GatherRun

open Cert.KernelIdeal Cert.KernelIdeal.Gen Cert.Proof.Setup Cert.Proof.TileProg Cert.Proof.Places Cert.Proof.GatherBatch Cert.Proof.Gathers
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F]

local notation "𝕄" => MM F

variable (d : Dev nD) (L : grid0.Coords)
variable (q : PosShare TreeShare) (tab : S26000000x16.Idx → Elt F .f32) (l : S26x128.Idx → BitVec 32) (hl : ∀ p, (l p).toNat < 26000000)
  (fr : S3328x16.Idx → Elt F .f32)

/-- The table under a share, whole. -/
abbrev tabPts (q : PosShare TreeShare) (tab : S26000000x16.Idx → Elt F .f32) : sProp 𝕄 := tV.view.loc (thr d L) ↦{q} tab
/-- The row scratch and the list scratch, whole. -/
abbrev rowPts (fr : S3328x16.Idx → Elt F .f32) : sProp 𝕄 := rV.view.loc (thr d L) ↦{fullShare} fr
abbrev listPts (l : S26x128.Idx → BitVec 32) : sProp 𝕄 := sV.view.loc (thr d L) ↦{fullShare} (l : S26x128.Idx → Elt F .i32)

theorem tab_pieces : (tabPts d L q tab : sProp 𝕄)
    = bigSep Finset.univ fun j : Fin 26 => ((tabK tV).view.loc (thr d L) ↦[(tabK tV).view.set]{tq q j} tab) := by
  refine Eq.trans ?_ (pointsTo_piecesOf (ℓ := (tabK tV).view.loc (thr d L)) (tabK tV).view.set tab (o := 26) (by decide) q)
  rw [tabK_set]

theorem row_pieces : (rowPts d L fr : sProp 𝕄)
    = bigSep Finset.univ fun j : Fin 26 => ((rowsK rV j).view.loc (thr d L) ↦[(rowsK rV j).view.set]{fullShare} fr) := by
  refine Eq.trans ?_ (pointsTo_biUnion (ℓ := rV.view.loc (thr d L)) (Finset.univ : Finset (Fin 26)) rowsSet rowsK_disjoint)
  rw [rowsK_cover]

theorem list_pieces : (listPts (F := F) d L l : sProp 𝕄)
    = bigSep Finset.univ fun j : Fin 26 => ((listK sV j).view.loc (thr d L) ↦[(listK sV j).view.set]{fullShare} (l : S26x128.Idx → Elt F .i32)) := by
  refine Eq.trans ?_ (pointsTo_biUnion (ℓ := sV.view.loc (thr d L)) (Finset.univ : Finset (Fin 26)) listSet listK_disjoint)
  rw [listK_cover]

/-- What the twenty-six issues take, together. -/
theorem give_all : iprop(tabPts d L q tab ∗ rowPts d L fr ∗ listPts (F := F) d L l) ⊢ (bigSep Finset.univ (toGive d L q tab l fr) : sProp 𝕄) := by
  rw [tab_pieces, row_pieces, list_pieces, ← bigSep_sep', ← bigSep_sep']
  exact Entails.rfl

/-- One gather's deliveries, joined. -/
theorem gather_done (j : Fin 26) :
    (bigSep Finset.univ (fun x : Fin 128 => delivered d L q tab l hl fr j x) : sProp 𝕄)
      ⊢ toGive d L q tab l (takeRows tab l) j := by
  unfold delivered
  refine (rowsDone_join (F := F) (Ix := HIx 1) (Name := ℕ) (U := UU) (Lvl := ℕ) (thr d L) (tabK tV) (rowsK rV j) gathers_S26000000x16_S128x16 (listK sV j) rfl (by decide)
    (tq q j) fullShare tab fr l (SparseCore.rows ((listK sV j).view.read (Elt F) l) rfl (list_inb (F := F) l hl j))).trans ?_
  unfold toGive
  rw [pointsTo_congr (landed (F := F) tab l hl j fr)]
  iintro ⟨Hr, Ht, Hl⟩
  isplitl [Ht]; · iexact Ht
  isplitl [Hr]; · iexact Hr
  iexact Hl

/-- The batch's deliveries, together. -/
theorem done_all : (bigSep Finset.univ (DD d L q tab l hl fr) : sProp 𝕄)
    ⊢ iprop(tabPts d L q tab ∗ rowPts d L (takeRows tab l) ∗ listPts (F := F) d L l) := by
  rw [bigSep_univ_equiv (finProdFinEquiv (m := 26) (n := 128)), bigSep_univ_prod, tab_pieces, row_pieces, list_pieces, ← bigSep_sep', ← bigSep_sep']
  refine bigSep_mono fun j _ => ?_
  refine BIBase.Entails.trans (Entails.of_eq (bigSep_congr fun x _ => ?_)) (gather_done d L q tab l hl fr j)
  have h : 128 * j.val + x.val < 26 * 128 := by have := j.isLt; have := x.isLt; omega
  rw [← DD_at d L q tab l hl fr j x h]
  exact congrArg _ (Fin.ext (show x.val + 128 * j.val = 128 * j.val + x.val by omega))

/-- ISSUES AND WAITS, then `k`. -/
theorem wp_gathers (O : CellTallies nD τ sig (HIx 1)) (W W₀ : Waits sig (HIx 1)) (hW : ∀ p ∈ W₀, p ∈ W ∨ p.2 = none)
    (hl : ∀ p, (l p).toNat < 26000000) (k : TP F L) (Q : PUnit → sProp 𝕄) :
    iprop(tabPts d L q tab ∗ rowPts d L fr ∗ listPts (F := F) d L l ∗ semVal ((thr d L), SemLoc.dma cc0_scratch2.sem) 0
        ∗ owes (thr d L) O W₀ ∗ Transfers.MayWaits (thr d L) (default : HIx 1) O)
      ⊢ iprop((iprop(tabPts d L q tab ∗ rowPts d L (takeRows tab l) ∗ listPts (F := F) d L l ∗ semVal ((thr d L), SemLoc.dma cc0_scratch2.sem) 0
              ∗ ∃ W', ⌜∀ p ∈ W', p ∈ W ∨ p.2 = none⌝ ∗ owes (thr d L) O W')
            -∗ wp frame (wpE (defs₀ (F := F)) 𝒱₀ (thr d L) none) Set.univ k Q)
          -∗ wp frame (wpE (defs₀ (F := F)) 𝒱₀ (thr d L) none) Set.univ
            (lastSteps L (gatherAt L tV sV rV cc0_scratch2) (lastSteps L (waitAt L tV rV cc0_scratch2) k 26 le_rfl) 26 le_rfl) Q) := by
  have hI := wp_issues d L q tab l hl fr (lastSteps L (waitAt L tV rV cc0_scratch2) k 26 le_rfl) Q 26 le_rfl
  have hWt := wp_waits d L q tab l hl fr O W k Q 26 le_rfl W₀ hW
  iintro ⟨Ht, Hr, Hl, Hsem, HO, Hmw⟩ Hk
  ihave Hg := (give_all d L q tab l fr) $$ [Ht Hr Hl]
  · isplitl [Ht]; · iexact Ht
    isplitl [Hr]; · iexact Hr
    iexact Hl
  imod (Transfers.batch_alloc' (countersEmb : UEmb Counters 𝕄) (thr d L) (default : HIx 1) rowN (DD d L q tab l hl fr)) $$ Hsem with HB
  iapply hI $$ [Hg HB]
  · isplitl [Hg]
    · iapply (Entails.of_eq (Transfers.bigSep_pending_zero (toGive d L q tab l fr))); iexact Hg
    iexact HB
  iintro HB
  iapply hWt $$ [HB HO Hmw]
  · isplitl [HB]; · iexact HB
    isplitl [HO]; · iexact HO
    iexact Hmw
  iintro ⟨HB, HO⟩
  imod (Transfers.batch_collect' (countersEmb : UEmb Counters 𝕄) (thr d L) rowN_pos) $$ HB with ⟨Hd, Hsem⟩
  ihave H := (done_all d L q tab l hl fr) $$ Hd
  icases H with ⟨Ht, Hr, Hl⟩
  iapply Hk
  isplitl [Ht]; · iexact Ht
  isplitl [Hr]; · iexact Hr
  isplitl [Hl]; · iexact Hl
  isplitl [Hsem]; · iexact Hsem
  iexact HO

end Cert.Proof.GatherRun

end
-- ==== Proof.Tile.lean ====
/-
  A task of the SparseCore call on any of the thirty-two tiles: it fetches its block of row numbers, gathers the rows
  they name and writes them to its rows of the result, which then hold the call's function there.
-/
module

public import proofs.«01_k».proof.Proof.GatherRun

@[expose] public section

noncomputable section

namespace Cert.Proof.Tile

open Cert.KernelIdeal Cert.KernelIdeal.Gen Cert.Proof.Setup Cert.Proof.TileProg Cert.Proof.Places Cert.Proof.Gathers Cert.Proof.GatherRun
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F]

local notation "𝕄" => MM F

variable (d : Dev nD) (L : grid0.Coords)

/-- The task's three semaphores: the gathers', the fetch's, the write-out's. -/
abbrev gCell : GSem nD τ sig := (thr d L, .dma cc0_scratch2.sem)
abbrev fCell : GSem nD τ sig := (thr d L, .dma cc0_scoped0.sem)
abbrev wCell : GSem nD τ sig := (thr d L, .dma cc0_scoped1.sem)

/-- The semaphores no task touches, at zero, and the buffers no task touches. -/
def otherSems : sProp 𝕄 :=
  bigSep ((((ownCells (thr d L)).erase (gCell d L)).erase (fCell d L)).erase (wCell d L)) fun g => semVal g 0
def otherBufs : sProp 𝕄 :=
  bigSep (((ownRefs (τ := τ) (.scVector (cV L) (jV L))).erase ((Proc.scVector (cV L) (jV L)).devRef cc0_scratch0)).erase
    ((Proc.scVector (cV L) (jV L)).devRef cc0_scratch1)) fun b => iprop(∃ f, ((d, b) : Loc nD τ sig) ↦{fullShare} f)

theorem sems_eq : (ownSems0 (thr d L) : sProp 𝕄)
    = iprop(semVal (gCell d L) 0 ∗ semVal (fCell d L) 0 ∗ semVal (wCell d L) 0 ∗ otherSems (F := F) d L) := by
  unfold SparseCore.Cfg.ownSems0 otherSems
  have hg : gCell d L ∈ ownCells (thr d L) := mem_ownCells.mpr ⟨rfl, by
    show (SemLoc.dma cc0_scratch2.sem : SemLoc sig).isScoped .scVector = true; decide⟩
  have hf : fCell d L ∈ ownCells (thr d L) := mem_ownCells.mpr ⟨rfl, by
    show (SemLoc.dma cc0_scoped0.sem : SemLoc sig).isScoped .scVector = true; decide⟩
  have hw : wCell d L ∈ ownCells (thr d L) := mem_ownCells.mpr ⟨rfl, by
    show (SemLoc.dma cc0_scoped1.sem : SemLoc sig).isScoped .scVector = true; decide⟩
  have hfg : fCell d L ≠ gCell d L := by simp [fCell, gCell]; decide
  have hwg : wCell d L ≠ gCell d L := by simp [wCell, gCell]; decide
  have hwf : wCell d L ≠ fCell d L := by simp [wCell, fCell]; decide
  rw [SparseCore.bigSep_erase' hg, SparseCore.bigSep_erase' (Finset.mem_erase.mpr ⟨hfg, hf⟩),
    SparseCore.bigSep_erase' (Finset.mem_erase.mpr ⟨hwf, Finset.mem_erase.mpr ⟨hwg, hw⟩⟩)]

theorem bufs_eq : (ownBufs (thr d L) : sProp 𝕄)
    = iprop((∃ f, (thr d L).loc cc0_scratch0 ↦{fullShare} f) ∗ (∃ f, (thr d L).loc cc0_scratch1 ↦{fullShare} f) ∗ otherBufs (F := F) d L) := by
  unfold SparseCore.Cfg.ownBufs otherBufs
  have h0 := SparseCore.Cfg.mem_ownRefs_of_owner (p := Proc.scVector (cV L) (jV L)) (b := (Proc.scVector (cV L) (jV L)).devRef cc0_scratch0) rfl
  have h1 := SparseCore.Cfg.mem_ownRefs_of_owner (p := Proc.scVector (cV L) (jV L)) (b := (Proc.scVector (cV L) (jV L)).devRef cc0_scratch1) rfl
  have hne : (Proc.scVector (cV L) (jV L)).devRef cc0_scratch1 ≠ (Proc.scVector (cV L) (jV L)).devRef cc0_scratch0 := fun e =>
    absurd (Proc.devRef_injective _ e) (show (cc0_scratch1 : Ref sig .scVector) ≠ cc0_scratch0 by decide)
  refine (SparseCore.bigSep_erase' h0).trans ?_
  rw [SparseCore.bigSep_erase' (Finset.mem_erase.mpr ⟨hne, h1⟩)]

variable (ix : S32x26x128.Idx → BitVec 32) (tab : S26000000x16.Idx → Elt F .f32)

/-- The task's block of row numbers, and its rows of the result. -/
abbrev idxPts (ix : S32x26x128.Idx → BitVec 32) : sProp 𝕄 := iLoc d ↦[(idxK L iV).view.set]{fullShare} (ix : S32x26x128.Idx → Elt F .i32)
abbrev outPts (fo : S106496x16.Idx → Elt F .f32) : sProp 𝕄 := oLoc d ↦[(outK L oV).view.set]{fullShare} fo

set_option maxHeartbeats 1000000 in
/-- THE TASK on any tile, with its value. -/
theorem tile_body (q : PosShare TreeShare) (fo : S106496x16.Idx → Elt F .f32) (hix : ∀ p, (ix p).toNat < 26000000)
    (hF : (K (F := F)).Facts) (O : CellTallies nD τ sig (HIx 1)) (W : Waits sig (HIx 1)) (hO : ∀ g, O g none = 0) :
    iprop(levAts (K (F := F)).L (K (F := F)).lev ∗ emp
        ∗ (idxPts (F := F) d L ix ∗ (tLoc d ↦{q} tab) ∗ outPts d L fo)
        ∗ scopedBufs (thr d L) ∗ scopedSems0 (thr d L) ∗ owes (thr d L) O W)
      ⊢ wp frame (wpE (defs₀ (F := F)) 𝒱₀ (thr d L) none) Set.univ
          (cc0__sc_gather L tV (Memref.isWhole_whole _) iV (Memref.isWhole_whole _) oV (Memref.isWhole_whole _)
            sV (Memref.isWhole_whole _) rV (Memref.isWhole_whole _) cc0_scratch2 cc0_scoped0 cc0_scoped1)
          fun _ => iprop((idxPts (F := F) d L ix ∗ (tLoc d ↦{q} tab) ∗ outPts d L (gathered tab ix))
            ∗ scopedBufs (thr d L) ∗ scopedSems0 (thr d L)
            ∗ ∃ W', ⌜∀ p ∈ W', p ∈ W ∨ p.2 = none⌝ ∗ owes (thr d L) O W') := by
  rw [body_eq]
  unfold task
  rw [(K (F := F)).scopedBufs_V hF d (cV L) (jV L), SparseCore.Cfg.scopedSems0_V (Val := Elt F) d (cV L) (jV L), sems_eq, bufs_eq]
  iintro ⟨#Hlv, -, ⟨Hi, Ht, Ho⟩, ⟨⟨%fs, Hs⟩, ⟨%fr, Hr⟩, Hbufs⟩, ⟨HsemG, HsemF, HsemW, Hsems⟩, HO⟩
  ihave Hmw := (show levAts (K (F := F)).L (K (F := F)).lev ⊢ Transfers.MayWaits (thr d L) (default : HIx 1) O from
    (K (F := F)).mayWaits_none (thr := thr d L) hO) $$ Hlv
  ihave Hi' := (Entails.of_eq (show (idxPts (F := F) d L ix : sProp 𝕄) = ((idxK L iV).view.loc (thr d L) ↦[(idxK L iV).view.set]{fullShare} (ix : S32x26x128.Idx → Elt F .i32)) from rfl)) $$ Hi
  ihave Ho' := (Entails.of_eq (show (outPts d L fo : sProp 𝕄) = ((outK L oV).view.loc (thr d L) ↦[(outK L oV).view.set]{fullShare} fo) from rfl)) $$ Ho
  ihave Hs' := (Entails.of_eq (show ((thr d L).loc cc0_scratch0 ↦{fullShare} fs : sProp 𝕄) = (sV.view.loc (thr d L) ↦{fullShare} fs) from rfl)) $$ Hs
  ihave Hr' := (Entails.of_eq (show ((thr d L).loc cc0_scratch1 ↦{fullShare} fr : sProp 𝕄) = (rV.view.loc (thr d L) ↦{fullShare} fr) from rfl)) $$ Hr
  generalize hX : lastSteps (F := F) L (gatherAt L tV sV rV cc0_scratch2) _ 26 le_rfl = X
  sl_exec
  have hl : ∀ p, (listBlock ix (wid L) p).toNat < 26000000 := fun p => hix _
  have hdma : View.write (Elt F) sV.view fs (tile_body.sl.dma0 (F := F) L ix) Finset.univ = (listBlock ix (wid L) : S26x128.Idx → Elt F .i32) := by
    rw [View.write_whole_univ]
    exact idxK_read (F := F) L ix
  ihave Hs2 := (Entails.of_eq (congrArg (fun f => (sV.view.loc (thr d L) ↦{fullShare} f : sProp 𝕄)) hdma)) $$ Hs'
  subst hX
  have hW : ∀ p ∈ insert ((SemLoc.dma cc0_scoped0.sem : SemLoc sig), (default : HIx 1)) W, p ∈ W ∨ p.2 = none := fun p hp => by
    rcases Finset.mem_insert.mp hp with hp | hp
    · exact .inr (hp ▸ rfl)
    · exact .inl hp
  iapply (wp_gathers d L q tab (listBlock ix (wid L)) fr O W _ hW hl) $$ [Ht Hs2 Hr' HsemG HO]
  · isplitl [Ht]; · iexact Ht
    isplitl [Hr']; · iexact Hr'
    isplitl [Hs2]; · iexact Hs2
    isplitl [HsemG]; · iexact HsemG
    isplitl [HO]; · iexact HO
    iexact Hmw
  iintro ⟨Ht, Hr2, Hs3, HsemG, %W', %hW', HO⟩
  sl_exec
  sl_step
  ihave Ho2 := (Entails.of_eq (show ((outK L oV).view.loc (thr d L) ↦[(outK L oV).view.set]{fullShare}
      (outK L oV).view.writes (Elt F) fo [⟨Rect.whole S3328x16, tile_body.sl.dma0_1 (F := F) L ix tab⟩] : sProp 𝕄) = outPts d L (gathered tab ix) from
    pointsTo_congr (written_piece (F := F) tab ix L fo))) $$ Ho'
  isplitl [Hi' Ht Ho2]
  · isplitl [Hi']; · iexact Hi'
    isplitl [Ht]; · iexact Ht
    iexact Ho2
  isplitl [Hs3 Hr2 Hbufs]
  · isplitl [Hs3]; · iexists _; iexact Hs3
    isplitl [Hr2]; · iexists _; iexact Hr2
    iexact Hbufs
  isplitl [HsemG HsemF HsemW Hsems]
  · isplitl [HsemG]; · iexact HsemG
    isplitl [HsemF]; · iexact HsemF
    isplitl [HsemW]; · iexact HsemW
    iexact Hsems
  iexists _; isplitr
  swap; · iexact HO
  ipureintro; intro p hp
  rcases Finset.mem_insert.mp hp with hp | hp
  · exact .inr (hp ▸ rfl)
  · exact hW' p hp

end Cert.Proof.Tile

end
-- ==== Proof.Call.lean ====
/-
  The SparseCore call as @main sees it: what its handshakes carry, each tile's obligation, and the split of the three
  arrays among the thirty-two tiles (the list and the result by blocks, the table by shares).
-/
module

public import proofs.«01_k».proof.Proof.Tile

@[expose] public section

noncomputable section

namespace Cert.Proof.Call

open Cert.KernelIdeal Cert.KernelIdeal.Gen Cert.Proof.Setup Cert.Proof.TileProg Cert.Proof.Places Cert.Proof.Gathers Cert.Proof.Tile
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F]

local notation "𝕄" => MM F

/-- Tile `i` of SparseCore `c`. -/
def LL (c : Fin 2) (i : Fin 16) : grid0.Coords :=
  fun | 0 => c | 1 => i | ⟨_ + 2, h⟩ => absurd h (Nat.not_lt.2 (Nat.le_add_left _ _))

theorem wid_LL (c : Fin 2) (i : Fin 16) : (wid (LL c i)).val = 2 * i.val + c.val := rfl

/-- The share of the table a tile reads under. -/
abbrev tileShare (c : Fin 2) (i : Fin 16) : PosShare TreeShare := pieceOf fullShare 32 (by decide) (wid (LL c i))

variable (ix : Dev nD → S32x26x128.Idx → BitVec 32) (tab : Dev nD → S26000000x16.Idx → Elt F .f32) (fo : Dev nD → S106496x16.Idx → Elt F .f32)

/-- A tile's part of the three arrays, the result's at `f`. -/
def part (f : Dev nD → S106496x16.Idx → Elt F .f32) (d : Dev nD) (c : Fin 2) (i : Fin 16) : sProp 𝕄 :=
  iprop(idxPts (F := F) d (LL c i) (ix d) ∗ (tLoc d ↦{tileShare c i} tab d) ∗ outPts d (LL c i) (f d))

instance part_storable (f : Dev nD → S106496x16.Idx → Elt F .f32) (d : Dev nD) (c : Fin 2) (i : Fin 16) :
    BI.Storable (upEmb : UEmb _ 𝕄) (part ix tab f d c i) := by
  unfold part idxPts outPts; infer_instance

/-- A SparseCore's part: its sixteen tiles'. -/
def corePart (f : Dev nD → S106496x16.Idx → Elt F .f32) (d : Dev nD) (c : Fin 2) : sProp 𝕄 :=
  bigSep Finset.univ fun i : Fin 16 => part ix tab f d c i

instance corePart_storable (f : Dev nD → S106496x16.Idx → Elt F .f32) (d : Dev nD) (c : Fin 2) :
    BI.Storable (upEmb : UEmb _ 𝕄) (corePart ix tab f d c) := by
  unfold corePart; infer_instance

/-- What the call does to the result. -/
abbrev res (d : Dev nD) : S106496x16.Idx → Elt F .f32 := gathered (tab d) (ix d)

/-- What the handshakes carry: to a SparseCore its part and back with the result's rows gathered; likewise a tile. -/
def P : (K (F := F)).Pay (nD := nD) (Val := Elt F) (Name := ℕ) (U := UU) where
  st := fun q d c => match q with | 0 => corePart ix tab fo d (Fin.cast nCore_zero c)
  dn := fun q d c => match q with | 0 => corePart ix tab (res ix tab) d (Fin.cast nCore_zero c)
  go := fun q d c i => match q with | 0 => part ix tab fo d (Fin.cast nCore_zero c) (Fin.cast nSub_zero i)
  td := fun q d c i => match q with | 0 => part ix tab (res ix tab) d (Fin.cast nCore_zero c) (Fin.cast nSub_zero i)
  x := fun _ _ => iprop(emp)

instance P_storable : (P ix tab fo).IsStorable where
  st q d c := match q with | 0 => corePart_storable ix tab fo d (Fin.cast nCore_zero c)
  dn q d c := match q with | 0 => corePart_storable ix tab (res ix tab) d (Fin.cast nCore_zero c)
  go q d c i := match q with | 0 => part_storable ix tab fo d (Fin.cast nCore_zero c) (Fin.cast nSub_zero i)
  td q d c i := match q with | 0 => part_storable ix tab (res ix tab) d (Fin.cast nCore_zero c) (Fin.cast nSub_zero i)

/-! ## A tile's obligation -/

theorem defs₀_vector (c : Fin τ.nSC) (s : Fin τ.nSub) :
    defs₀ (F := F) (.scVector c s) 0 ()
      = SparseCore.onTile hcore0 hsub0 (fun c s => cc0__sc_gather (LL c s)
          tV (Memref.isWhole_whole _) iV (Memref.isWhole_whole _) oV (Memref.isWhole_whole _)
          sV (Memref.isWhole_whole _) rV (Memref.isWhole_whole _) cc0_scratch2 cc0_scoped0 cc0_scoped1) ⟨⟩ c s := rfl

/-- A task's end, as the launch asks for it: what it waited for besides is allowed. -/
theorem end_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %h, HO⟩
  isplitl [HA]; · iexact HA
  isplitl [HB]; · iexact HB
  isplitl [HC]; · iexact HC
  iexists W'
  isplitr
  · ipureintro; exact fun p hp => (h p hp).imp_right Or.inl
  · iexact HO

set_option maxRecDepth 16384 in
theorem tileObl (hix : ∀ d p, (ix d p).toNat < 26000000) : (K (F := F)).TileObl (D (F := F)) 𝒱 (P ix tab fo) v₀ 0 := by
  intro d c i O W hO _ _
  simp only [show (P ix tab fo).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (LL (Fin.cast nCore_zero c) (Fin.cast nSub_zero i)) (ix d) (tab d) (tileShare (Fin.cast nCore_zero c) (Fin.cast nSub_zero i)) (fo d) (hix d) facts O W hO).trans
    (wp_mono frame _ _ fun _ => end_weaken)

/-! ## The split -/

theorem vecSplit : (K (F := F)).VecSplit' (P ix tab fo) 0 := by
  intro d c
  have hc : ∀ f : Dev nD → S106496x16.Idx → Elt F .f32, (bigSep Finset.univ fun i : Fin ((K (F := F)).nSub 0) => part ix tab f d (Fin.cast nCore_zero c) (Fin.cast nSub_zero i))
      = corePart ix tab f d (Fin.cast nCore_zero c) := fun f => bigSep_congr fun _ _ => congrArg (part ix tab f d (Fin.cast nCore_zero c)) (Fin.ext rfl)
  show corePart ix tab fo d (Fin.cast nCore_zero c) ⊢ |={Set.univ}=> iprop(
      (bigSep Finset.univ fun i : Fin ((K (F := F)).nSub 0) => part ix tab fo d (Fin.cast nCore_zero c) (Fin.cast nSub_zero i))
      ∗ ((bigSep Finset.univ fun i : Fin ((K (F := F)).nSub 0) => part ix tab (res ix tab) d (Fin.cast nCore_zero c) (Fin.cast nSub_zero i))
          -∗ corePart ix tab (res ix tab) d (Fin.cast nCore_zero c)))
  rw [hc, hc]
  iintro H; imodintro
  isplitl [H]; · iexact H
  iintro H; iexact H

/-- The tiles, numbered as their blocks are. -/
def tiles : Fin 2 × Fin 16 ≃ Fin 32 := (Equiv.prodComm (Fin 2) (Fin 16)).trans (finProdFinEquiv (m := 16) (n := 2))

theorem tiles_eq (c : Fin 2) (i : Fin 16) : tiles (c, i) = wid (LL c i) :=
  Fin.ext (show c.val + 2 * i.val = 2 * i.val + c.val from Nat.add_comm _ _)

abbrev idxSet (w : Fin 2 × Fin 16) : Finset S32x26x128.Idx := (idxK (LL w.1 w.2) iV).view.set
abbrev outSet (w : Fin 2 × Fin 16) : Finset S106496x16.Idx := (outK (LL w.1 w.2) oV).view.set

theorem tile_inj {a b : Fin 2 × Fin 16} (h : (wid (LL a.1 a.2)).val = (wid (LL b.1 b.2)).val) : a = b :=
  tiles.injective (((tiles_eq a.1 a.2).trans (Fin.ext h)).trans (tiles_eq b.1 b.2).symm)

theorem tile_of (w : Fin 32) : ∃ a : Fin 2 × Fin 16, wid (LL a.1 a.2) = w :=
  ⟨tiles.symm w, ((tiles_eq _ _).symm.trans (tiles.apply_symm_apply w))⟩

theorem idxSet_disjoint : ∀ a ∈ (Finset.univ : Finset (Fin 2 × Fin 16)), ∀ b ∈ (Finset.univ : Finset (Fin 2 × Fin 16)), a ≠ b → Disjoint (idxSet a) (idxSet b) :=
  fun a _ b _ h => Finset.disjoint_left.mpr fun p ha hb => h (tile_inj (((mem_idxK (LL a.1 a.2) p).mp ha).symm.trans ((mem_idxK (LL b.1 b.2) p).mp hb)))

theorem outSet_disjoint : ∀ a ∈ (Finset.univ : Finset (Fin 2 × Fin 16)), ∀ b ∈ (Finset.univ : Finset (Fin 2 × Fin 16)), a ≠ b → Disjoint (outSet a) (outSet b) :=
  fun a _ b _ h => Finset.disjoint_left.mpr fun p ha hb => h (tile_inj (((mem_outK (LL a.1 a.2) p).mp ha).symm.trans ((mem_outK (LL b.1 b.2) p).mp hb)))

theorem idxSet_cover : (Finset.univ : Finset (Fin 2 × Fin 16)).biUnion idxSet = Finset.univ := by
  refine Finset.eq_univ_iff_forall.mpr fun (p : S32x26x128.Idx) => ?_
  obtain ⟨a, ha⟩ := tile_of (p 0)
  exact Finset.mem_biUnion.mpr ⟨a, Finset.mem_univ _, (mem_idxK (LL a.1 a.2) p).mpr (congrArg Fin.val ha.symm)⟩

theorem outSet_cover : (Finset.univ : Finset (Fin 2 × Fin 16)).biUnion outSet = Finset.univ := by
  refine Finset.eq_univ_iff_forall.mpr fun (p : S106496x16.Idx) => ?_
  obtain ⟨a, ha⟩ := tile_of ⟨(p 0).val / 3328, by have := ValueIdx.idx2_lt0 p; omega⟩
  exact Finset.mem_biUnion.mpr ⟨a, Finset.mem_univ _, (mem_outK (LL a.1 a.2) p).mpr (congrArg Fin.val ha.symm)⟩

/-- The three arrays whole are the tiles' parts. -/
theorem arrays_parts (f : Dev nD → S106496x16.Idx → Elt F .f32) (d : Dev nD) :
    (iprop((iLoc d ↦{fullShare} (ix d : S32x26x128.Idx → Elt F .i32)) ∗ (tLoc d ↦{fullShare} tab d) ∗ oLoc d ↦{fullShare} f d) : sProp 𝕄)
      = bigSep Finset.univ fun c : Fin 2 => corePart ix tab f d c := by
  have hi : (iLoc d ↦{fullShare} (ix d : S32x26x128.Idx → Elt F .i32) : sProp 𝕄)
      = bigSep Finset.univ fun w : Fin 2 × Fin 16 => (iLoc d ↦[idxSet w]{fullShare} (ix d : S32x26x128.Idx → Elt F .i32)) := by
    refine Eq.trans ?_ (pointsTo_biUnion (ℓ := iLoc d) Finset.univ idxSet idxSet_disjoint)
    rw [idxSet_cover]
  have ho : (oLoc d ↦{fullShare} f d : sProp 𝕄) = bigSep Finset.univ fun w : Fin 2 × Fin 16 => (oLoc d ↦[outSet w]{fullShare} f d) := by
    refine Eq.trans ?_ (pointsTo_biUnion (ℓ := oLoc d) Finset.univ outSet outSet_disjoint)
    rw [outSet_cover]
  have ht : (tLoc d ↦{fullShare} tab d : sProp 𝕄) = bigSep Finset.univ fun w : Fin 2 × Fin 16 => (tLoc d ↦{tileShare w.1 w.2} tab d) := by
    refine (pointsTo_piecesOf (ℓ := tLoc d) Finset.univ (tab d) (o := 32) (by decide) fullShare).trans ?_
    rw [bigSep_univ_equiv tiles]
    exact bigSep_congr fun w _ => by rw [show tiles w = wid (LL w.1 w.2) from tiles_eq w.1 w.2]
  rw [hi, ho, ht, ← bigSep_sep', ← bigSep_sep', bigSep_univ_prod]
  rfl

theorem st_eq (d : Dev nD) : (bigSep Finset.univ fun c : Fin ((K (F := F)).nCore 0) => (P ix tab fo).st 0 d c)
    = iprop((iLoc d ↦{fullShare} (ix d : S32x26x128.Idx → Elt F .i32)) ∗ (tLoc d ↦{fullShare} tab d) ∗ oLoc d ↦{fullShare} fo d) := by
  rw [arrays_parts]
  exact bigSep_congr fun c _ => congrArg (corePart ix tab fo d) (Fin.ext rfl)

theorem dn_eq (d : Dev nD) : (bigSep Finset.univ fun c : Fin ((K (F := F)).nCore 0) => (P ix tab fo).dn 0 d c)
    = iprop((iLoc d ↦{fullShare} (ix d : S32x26x128.Idx → Elt F .i32)) ∗ (tLoc d ↦{fullShare} tab d) ∗ oLoc d ↦{fullShare} res ix tab d) := by
  rw [arrays_parts]
  exact bigSep_congr fun c _ => congrArg (corePart ix tab (res ix tab) d) (Fin.ext rfl)

end Cert.Proof.Call

end
-- ==== Proof.Mlp.lean ====
/-
  The perceptron's kernel body, run: from its twenty-two staging buffers it goes to its return, leaves the inputs'
  as they were and the result's at one value of the inputs' contents.
-/
module

public import proofs.«01_k».proof.Proof.Setup
public import proofs.«01_k».proof.Proof.Gen.KernelIdeal.Skeleton
public import Idealize.ShloMosaic.Lib.Pipeline.FrameBody
public import Idealize.ShloMosaic.Lib.Pipeline.Value
public import Idealize.ShloMosaic.Lib.LaneScatter.Tiles

@[expose] public section

noncomputable section

namespace Cert.Proof.Mlp

open Cert.KernelIdeal Cert.KernelIdeal.Gen Cert.Proof.Setup
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

/-- What the body stores, of the contents of the twenty-one inputs' buffers (in the operands' order). -/
def mlpOut (X0 : S512x416.Idx → Elt F .f32) (X1 : S512x13.Idx → Elt F .f32) (X2 : S1x13.Idx → Elt F .f32) (X3 : S1x13.Idx → Elt F .f32) (X4 : S1x13.Idx → Elt F .f32) (X5 : S1x13.Idx → Elt F .f32) (X6 : S416x256.Idx → Elt F .f32) (X7 : S13x256.Idx → Elt F .f32) (X8 : S1x256.Idx → Elt F .f32) (X9 : S1x256.Idx → Elt F .f32) (X10 : S1x256.Idx → Elt F .f32) (X11 : S1x256.Idx → Elt F .f32) (X12 : S1x256.Idx → Elt F .f32) (X13 : S256x128.Idx → Elt F .f32) (X14 : S1x128.Idx → Elt F .f32) (X15 : S1x128.Idx → Elt F .f32) (X16 : S1x128.Idx → Elt F .f32) (X17 : S1x128.Idx → Elt F .f32) (X18 : S1x128.Idx → Elt F .f32) (X19 : S128x1.Idx → Elt F .f32) (X20 : S1x1.Idx → Elt F .f32) :
    S512x1.Idx → Elt F .f32 :=
  k1_pay1 (k1_pay3 (k1_pay2 X1 X4 X5 X2 X3 X0 X6 X7 X8) X11 X12 X9 X10 X13 X14 X17 X18) X15 X16 X19 X20

/-- Memref `M` held whole on the TensorCore of `c` with contents `X`. -/
abbrev owned (c : Dev nD) {sp : Space} {s : Shape} {e : EltTy} (M : Memref sig .tc sp s e) (X : s.Idx → Elt F e) : sProp 𝕄 :=
  owns (c : Thread nD τ) M fullShare X

/-- Loading all of an array reads its contents. -/
theorem load_all {κ : Kind} {sp : Space} {s : Shape} {e : EltTy} (v : View sig κ sp s e) (f : v.ty.Contents (Elt F))
    {off : Fin s.rank → ℕ} (inb : ∀ a, off a + s.size a ≤ s.size a) :
    v.readAt (Elt F) (Rect.unit off s.size inb).toLoadRect f = v.read (Elt F) f :=
  View.ld_unit_zero (funext fun a => by have := inb a; omega) inb (v.read (Elt F) f)

set_option maxHeartbeats 4000000 in
/-- The run: from the staging buffers at any contents, to the result's at `mlpOut` of the inputs'. -/
theorem mlp_run (c : Dev nD) (i : grid1.Coords)
    (M0 : Memref sig .tc .vmem S512x416 .f32) (h0 : M0.IsWhole)
    (M1 : Memref sig .tc .vmem S512x13 .f32) (h1 : M1.IsWhole)
    (M2 : Memref sig .tc .vmem S1x13 .f32) (h2 : M2.IsWhole)
    (M3 : Memref sig .tc .vmem S1x13 .f32) (h3 : M3.IsWhole)
    (M4 : Memref sig .tc .vmem S1x13 .f32) (h4 : M4.IsWhole)
    (M5 : Memref sig .tc .vmem S1x13 .f32) (h5 : M5.IsWhole)
    (M6 : Memref sig .tc .vmem S416x256 .f32) (h6 : M6.IsWhole)
    (M7 : Memref sig .tc .vmem S13x256 .f32) (h7 : M7.IsWhole)
    (M8 : Memref sig .tc .vmem S1x256 .f32) (h8 : M8.IsWhole)
    (M9 : Memref sig .tc .vmem S1x256 .f32) (h9 : M9.IsWhole)
    (M10 : Memref sig .tc .vmem S1x256 .f32) (h10 : M10.IsWhole)
    (M11 : Memref sig .tc .vmem S1x256 .f32) (h11 : M11.IsWhole)
    (M12 : Memref sig .tc .vmem S1x256 .f32) (h12 : M12.IsWhole)
    (M13 : Memref sig .tc .vmem S256x128 .f32) (h13 : M13.IsWhole)
    (M14 : Memref sig .tc .vmem S1x128 .f32) (h14 : M14.IsWhole)
    (M15 : Memref sig .tc .vmem S1x128 .f32) (h15 : M15.IsWhole)
    (M16 : Memref sig .tc .vmem S1x128 .f32) (h16 : M16.IsWhole)
    (M17 : Memref sig .tc .vmem S1x128 .f32) (h17 : M17.IsWhole)
    (M18 : Memref sig .tc .vmem S1x128 .f32) (h18 : M18.IsWhole)
    (M19 : Memref sig .tc .vmem S128x1 .f32) (h19 : M19.IsWhole)
    (M20 : Memref sig .tc .vmem S1x1 .f32) (h20 : M20.IsWhole)
    (M21 : Memref sig .tc .vmem S512x1 .f32) (h21 : M21.IsWhole)
    (X0 : S512x416.Idx → Elt F .f32) (X1 : S512x13.Idx → Elt F .f32) (X2 : S1x13.Idx → Elt F .f32) (X3 : S1x13.Idx → Elt F .f32) (X4 : S1x13.Idx → Elt F .f32) (X5 : S1x13.Idx → Elt F .f32) (X6 : S416x256.Idx → Elt F .f32) (X7 : S13x256.Idx → Elt F .f32) (X8 : S1x256.Idx → Elt F .f32) (X9 : S1x256.Idx → Elt F .f32) (X10 : S1x256.Idx → Elt F .f32) (X11 : S1x256.Idx → Elt F .f32) (X12 : S1x256.Idx → Elt F .f32) (X13 : S256x128.Idx → Elt F .f32) (X14 : S1x128.Idx → Elt F .f32) (X15 : S1x128.Idx → Elt F .f32) (X16 : S1x128.Idx → Elt F .f32) (X17 : S1x128.Idx → Elt F .f32) (X18 : S1x128.Idx → Elt F .f32) (X19 : S128x1.Idx → Elt F .f32) (X20 : S1x1.Idx → Elt F .f32) (Y : S512x1.Idx → Elt F .f32)
    (E : Set ℕ) (Q : PUnit → sProp 𝕄) :
    iprop((owned c M0 X0 ∗ owned c M1 X1 ∗ owned c M2 X2 ∗ owned c M3 X3 ∗ owned c M4 X4 ∗ owned c M5 X5 ∗ owned c M6 X6 ∗ owned c M7 X7 ∗ owned c M8 X8 ∗ owned c M9 X9 ∗ owned c M10 X10 ∗ owned c M11 X11 ∗ owned c M12 X12 ∗ owned c M13 X13 ∗ owned c M14 X14 ∗ owned c M15 X15 ∗ owned c M16 X16 ∗ owned c M17 X17 ∗ owned c M18 X18 ∗ owned c M19 X19 ∗ owned c M20 X20 ∗ owned c M21 Y)
      ∗ (iprop(owned c M0 X0 ∗ owned c M1 X1 ∗ owned c M2 X2 ∗ owned c M3 X3 ∗ owned c M4 X4 ∗ owned c M5 X5 ∗ owned c M6 X6 ∗ owned c M7 X7 ∗ owned c M8 X8 ∗ owned c M9 X9 ∗ owned c M10 X10 ∗ owned c M11 X11 ∗ owned c M12 X12 ∗ owned c M13 X13 ∗ owned c M14 X14 ∗ owned c M15 X15 ∗ owned c M16 X16 ∗ owned c M17 X17 ∗ owned c M18 X18 ∗ owned c M19 X19 ∗ owned c M20 X20 ∗ owned c M21 (mlpOut X0 X1 X2 X3 X4 X5 X6 X7 X8 X9 X10 X11 X12 X13 X14 X15 X16 X17 X18 X19 X20)) -∗ Q ⟨⟩))
      ⊢ wp frame (wpE (defs₀ (F := F)) Variants.none c none) E (cc1__mlp_body i M0 h0 M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21) Q := by
  unfold owned owns
  iintro ⟨⟨⟨%f0, %r0, H0⟩, ⟨%f1, %r1, H1⟩, ⟨%f2, %r2, H2⟩, ⟨%f3, %r3, H3⟩, ⟨%f4, %r4, H4⟩, ⟨%f5, %r5, H5⟩, ⟨%f6, %r6, H6⟩, ⟨%f7, %r7, H7⟩, ⟨%f8, %r8, H8⟩, ⟨%f9, %r9, H9⟩, ⟨%f10, %r10, H10⟩, ⟨%f11, %r11, H11⟩, ⟨%f12, %r12, H12⟩, ⟨%f13, %r13, H13⟩, ⟨%f14, %r14, H14⟩, ⟨%f15, %r15, H15⟩, ⟨%f16, %r16, H16⟩, ⟨%f17, %r17, H17⟩, ⟨%f18, %r18, H18⟩, ⟨%f19, %r19, H19⟩, ⟨%f20, %r20, H20⟩, ⟨%f21, %r21, H21⟩⟩, Hk⟩
  sl_exec!
  sl_step
  iapply Hk
  isplitl [H0]; · iexists f0; isplitr [H0]; (· ipureintro; exact r0); iexact H0
  isplitl [H1]; · iexists f1; isplitr [H1]; (· ipureintro; exact r1); iexact H1
  isplitl [H2]; · iexists f2; isplitr [H2]; (· ipureintro; exact r2); iexact H2
  isplitl [H3]; · iexists f3; isplitr [H3]; (· ipureintro; exact r3); iexact H3
  isplitl [H4]; · iexists f4; isplitr [H4]; (· ipureintro; exact r4); iexact H4
  isplitl [H5]; · iexists f5; isplitr [H5]; (· ipureintro; exact r5); iexact H5
  isplitl [H6]; · iexists f6; isplitr [H6]; (· ipureintro; exact r6); iexact H6
  isplitl [H7]; · iexists f7; isplitr [H7]; (· ipureintro; exact r7); iexact H7
  isplitl [H8]; · iexists f8; isplitr [H8]; (· ipureintro; exact r8); iexact H8
  isplitl [H9]; · iexists f9; isplitr [H9]; (· ipureintro; exact r9); iexact H9
  isplitl [H10]; · iexists f10; isplitr [H10]; (· ipureintro; exact r10); iexact H10
  isplitl [H11]; · iexists f11; isplitr [H11]; (· ipureintro; exact r11); iexact H11
  isplitl [H12]; · iexists f12; isplitr [H12]; (· ipureintro; exact r12); iexact H12
  isplitl [H13]; · iexists f13; isplitr [H13]; (· ipureintro; exact r13); iexact H13
  isplitl [H14]; · iexists f14; isplitr [H14]; (· ipureintro; exact r14); iexact H14
  isplitl [H15]; · iexists f15; isplitr [H15]; (· ipureintro; exact r15); iexact H15
  isplitl [H16]; · iexists f16; isplitr [H16]; (· ipureintro; exact r16); iexact H16
  isplitl [H17]; · iexists f17; isplitr [H17]; (· ipureintro; exact r17); iexact H17
  isplitl [H18]; · iexists f18; isplitr [H18]; (· ipureintro; exact r18); iexact H18
  isplitl [H19]; · iexists f19; isplitr [H19]; (· ipureintro; exact r19); iexact H19
  isplitl [H20]; · iexists f20; isplitr [H20]; (· ipureintro; exact r20); iexact H20
  iexists _; isplitr [H21]; swap; · iexact H21
  ipureintro
  refine (LaneScatter.read_whole_store _ _ (by decide) _ _).trans ?_
  subst r0 r1 r2 r3 r4 r5 r6 r7 r8 r9 r10 r11 r12 r13 r14 r15 r16 r17 r18 r19 r20
  unfold mlpOut mlp_run.sl.r_1 mlp_run.sl.r_2 mlp_run.sl.r
  congr 3 <;> exact load_all _ _ _

end Cert.Proof.Mlp

end
-- ==== Proof.Region.lean ====
/-
  The TensorCore's kernel region: its proof data, its body obligation at every grid point, and the region over the
  thread state "every buffer of the program held at a valuation". It is entered from any valuation and left at the same
  one with the result's array written.
-/
module

public import proofs.«01_k».proof.Proof.Mlp
public import proofs.«01_k».proof.Proof.Gen.KernelIdeal.Launch
public import proofs.«01_k».proof.Proof.Gen.KernelIdeal.Points
public import Idealize.ShloMosaic.Lib.Pipeline.RegionsLoop
public import Idealize.ShloMosaic.Lib.Pipeline.FrameTail
public import Idealize.ShloMosaic.Lib.Tactic

@[expose] public section

noncomputable section

namespace Cert.Proof.Region

open Cert.KernelIdeal Cert.KernelIdeal.Gen Cert.Proof.Setup Cert.Proof.Mlp
open Idealize.ShloMosaic
open Idealize.ShloMosaic.SparseCore (T)
open Idealize.ShloMosaic.SparseCore.Cfg (HIx)
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [∀ e, Nonempty (Elt F e)]

local notation "𝕄" => MM F

/-- What the program's buffers hold, on every device. -/
abbrev Vals (F : FTy → Type) : Type := (c : Dev nD) → (b : Ref sig .tc) → Buf (Elt F) ((c : Thread nD τ).loc b)

variable (V : Vals F)

/-- The block of window `w`'s array a staging buffer holds at point `t`. -/
def inB (c : Dev nD) (w : Fin 22) (t : Fin cfg1.N) : (cfg1.win w).block.Idx → Elt F (cfg1.win w).elt :=
  (cfg1.win w).fill (cfg1.grid.coords t) (fun _ => Classical.arbitrary _) (((cfg1.win w).blk t).view.read (Elt F) (V c (Pipeline.arrRef spec1 w)))

/-- The result's block at point `t`. -/
def outB (c : Dev nD) (t : Fin cfg1.N) : S512x1.Idx → Elt F .f32 :=
  mlpOut (inB V c 0 t) (inB V c 1 t) (inB V c 2 t) (inB V c 3 t) (inB V c 4 t) (inB V c 5 t) (inB V c 6 t) (inB V c 7 t) (inB V c 8 t) (inB V c 9 t) (inB V c 10 t) (inB V c 11 t) (inB V c 12 t) (inB V c 13 t) (inB V c 14 t) (inB V c 15 t) (inB V c 16 t) (inB V c 17 t) (inB V c 18 t) (inB V c 19 t) (inB V c 20 t)

/-- What the staging buffers hold at point `t`: the inputs' their blocks, the result's `Y`. -/
def stg (c : Dev nD) (t : Fin cfg1.N) (Y : S512x1.Idx → Elt F .f32) : (w : Fin 22) → (cfg1.win w).block.Idx → Elt F (cfg1.win w).elt :=
  Function.update (β := fun w : Fin 22 => (cfg1.win w).block.Idx → Elt F (cfg1.win w).elt) (fun w => inB V c w t) 21 Y

theorem stg_in (c : Dev nD) (t : Fin cfg1.N) (Y : S512x1.Idx → Elt F .f32) (w : Fin 22) (h : w ≠ 21) : stg V c t Y w = inB V c w t :=
  Function.update_of_ne h _ _

/-- The waits a core may have behind it when the region starts: those the call on the SparseCores left. -/
def waited (c : Dev nD) : Set (SemLoc sig × HIx 1) := {p | (K (F := F)).lev (T c, p.1) p.2 ≤ 8 * 1}

/-- The region's proof data, entered at the valuation `V`. -/
def dat (c : Dev nD) : Dat τ (Elt F) (HIx 1) ℕ UU ℕ cfg1 c where
  A w := V c (Pipeline.arrRef spec1 w)
  after w t := stg V c t (outB V c t) w
  Φ _ := Pipeline.scopedRest (Ix := HIx 1) (Name := ℕ) (U := UU) (Lvl := ℕ) (Val := Elt F) spec1 c
  q _ := fullShare
  owed _ := 0
  recorded _ := waited (F := F) c

/-- An input's staging buffer holds its block when the body runs, fetched there or not. -/
theorem before_in (c : Dev nD) (w : Fin 22) (hw : w ≠ 21) (t : Fin cfg1.N) (d : (cfg1.win w).block.Idx → Elt F (cfg1.win w).elt) :
    (dat V c).before w t d = inB V c w t := by
  have hout : (cfg1.win w).isOut = false := (by decide : ∀ w : Fin 22, w ≠ 21 → (cfg1.win w).isOut = false) w hw
  have hclip : ∀ (i : cfg1.grid.Coords) a, (cfg1.win w).clip i a = none := by
    intro i a; fin_cases w <;> rfl
  have hkeep : ∀ s, (cfg1.win w).cut (cfg1.grid.coords s) ((dat V c).after w s) = (dat V c).blockOf w s := fun s => by
    show (cfg1.win w).cut (cfg1.grid.coords s) (stg V c s _ w) = _
    rw [stg_in V c s _ w hw]; exact Window.cut_fill _ _ _ _
  rw [Dat.before_in_eq_fetched (dat V c) w hout (fun _ => rfl) (fun s s' _ => by funext a; rw [hclip, hclip]) hkeep t d]
  exact (dat V c).fetched_of_clip_none w t (hclip _) d (fun _ => Classical.arbitrary _)

set_option maxHeartbeats 2000000 in
/-- The run at a grid point, over the twenty-two staging buffers together. -/
theorem run_at (c : Dev nD) (t : Fin cfg1.N) (Y : S512x1.Idx → Elt F .f32) (E : Set ℕ) (Q : PUnit → sProp 𝕄) :
    iprop((bigSep Finset.univ fun w : Fin 22 => owns (c : Thread nD τ) ((cfg1.win w).stage (cfg1.slots t w)) fullShare (stg V c t Y w))
      ∗ (iprop(bigSep Finset.univ fun w : Fin 22 => owns (c : Thread nD τ) ((cfg1.win w).stage (cfg1.slots t w)) fullShare (stg V c t (outB V c t) w)) -∗ Q ⟨⟩))
      ⊢ wp frame (wpE (defs₀ (F := F)) Variants.none c none) E (bodyAt1 t) Q := by
  rw [bigSep_W1, bigSep_W1]
  exact mlp_run c (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) (st1_6 t) (hstage1_6 ((cfg1.slots t 6).cast nbuf1_6)) (st1_7 t) (hstage1_7 ((cfg1.slots t 7).cast nbuf1_7)) (st1_8 t) (hstage1_8 ((cfg1.slots t 8).cast nbuf1_8)) (st1_9 t) (hstage1_9 ((cfg1.slots t 9).cast nbuf1_9)) (st1_10 t) (hstage1_10 ((cfg1.slots t 10).cast nbuf1_10)) (st1_11 t) (hstage1_11 ((cfg1.slots t 11).cast nbuf1_11)) (st1_12 t) (hstage1_12 ((cfg1.slots t 12).cast nbuf1_12)) (st1_13 t) (hstage1_13 ((cfg1.slots t 13).cast nbuf1_13)) (st1_14 t) (hstage1_14 ((cfg1.slots t 14).cast nbuf1_14)) (st1_15 t) (hstage1_15 ((cfg1.slots t 15).cast nbuf1_15)) (st1_16 t) (hstage1_16 ((cfg1.slots t 16).cast nbuf1_16)) (st1_17 t) (hstage1_17 ((cfg1.slots t 17).cast nbuf1_17)) (st1_18 t) (hstage1_18 ((cfg1.slots t 18).cast nbuf1_18)) (st1_19 t) (hstage1_19 ((cfg1.slots t 19).cast nbuf1_19)) (st1_20 t) (hstage1_20 ((cfg1.slots t 20).cast nbuf1_20)) (st1_21 t) (hstage1_21 ((cfg1.slots t 21).cast nbuf1_21))
    (inB V c 0 t) (inB V c 1 t) (inB V c 2 t) (inB V c 3 t) (inB V c 4 t) (inB V c 5 t) (inB V c 6 t) (inB V c 7 t) (inB V c 8 t) (inB V c 9 t) (inB V c 10 t) (inB V c 11 t) (inB V c 12 t) (inB V c 13 t) (inB V c 14 t) (inB V c 15 t) (inB V c 16 t) (inB V c 17 t) (inB V c 18 t) (inB V c 19 t) (inB V c 20 t) Y E Q

/-- The buffers as the body finds them. -/
theorem found_stg (c : Dev nD) (t : Fin cfg1.N) :
    (bigSep Finset.univ fun w : Fin 22 => iprop(∃ d, owns (c : Thread nD τ) ((cfg1.win w).stage (cfg1.slots t w)) fullShare ((dat V c).before w t d)) : sProp 𝕄)
      ⊢ iprop(∃ Y, bigSep Finset.univ fun w : Fin 22 => owns (c : Thread nD τ) ((cfg1.win w).stage (cfg1.slots t w)) fullShare (stg V c t Y w)) := by
  have hrest (Y : S512x1.Idx → Elt F .f32) :
      (bigSep (Finset.univ.erase 21) fun w : Fin 22 => iprop(∃ d, owns (c : Thread nD τ) ((cfg1.win w).stage (cfg1.slots t w)) fullShare ((dat V c).before w t d)) : sProp 𝕄)
        ⊢ bigSep (Finset.univ.erase 21) fun w : Fin 22 => owns (c : Thread nD τ) ((cfg1.win w).stage (cfg1.slots t w)) fullShare (stg V c t Y w) := by
    refine bigSep_mono fun w hw => ?_
    have hw' : w ≠ 21 := Finset.ne_of_mem_erase hw
    rw [stg_in V c t Y w hw']
    show iprop(∃ d, owns (c : Thread nD τ) ((cfg1.win w).stage (cfg1.slots t w)) fullShare ((dat V c).before w t d)) ⊢ (owns (c : Thread nD τ) ((cfg1.win w).stage (cfg1.slots t w)) fullShare (inB V c w t) : sProp 𝕄)
    iintro ⟨%d, H⟩
    rw [before_in V c w hw' t d]
    iexact H
  rw [SparseCore.bigSep_erase' (Finset.mem_univ (21 : Fin 22))]
  iintro ⟨⟨%d, H⟩, Hr⟩
  iexists ((dat V c).before 21 t d)
  rw [SparseCore.bigSep_erase' (Finset.mem_univ (21 : Fin 22))]
  isplitl [H]
  · iexact H
  · iapply (hrest _); iexact Hr

/-- The body obligation at every point. -/
theorem body_obligation (c : Dev nD) : BodyObligation (dat V c) (defs₀ (F := F)) 𝒱₀ none Set.univ := fun t => by
  rw [show (dat V c).Φ t.succ = (dat V c).Φ t.castSucc from rfl,
    show (dat V c).owesAt none t.succ = (dat V c).owesAt none t.castSucc from rfl]
  iintro ⟨HΦ, Howes, Hs⟩
  ihave H := found_stg V c t $$ Hs
  icases H with ⟨%Y, H⟩
  iapply (run_at V c t Y Set.univ _)
  isplitl [H]; · iexact H
  iintro H
  isplitl [HΦ]; · iexact HΦ
  isplitl [Howes]; · iexact Howes
  iexact H

/-! ## The region over the thread state -/

/-- The valuation the region leaves: the result's array written, the rest as it was. -/
def left : Vals F := fun c => Function.update (V c) main_v31 ((dat V c).arrAt 21 cfg1.N)

theorem left_out (c : Dev nD) : left V c main_v31 = (dat V c).arrAt 21 cfg1.N := Function.update_self _ _ _
theorem left_ne (c : Dev nD) (b : Ref sig .tc) (h : b ≠ main_v31) : left V c b = V c b := Function.update_of_ne h _ _

/-- The tables of no pipeline are prefetched. -/
abbrev adm : (p : Fin 1) → (pcfgs (F := F) p).Adm := fun p => (cfgs p).toPCfg_adm

/-- The proof data of the program's one pipeline. -/
def pdats : (p : Fin 1) → (c : Dev nD) → Dat τ (Elt F) (HIx 1) ℕ UU ℕ (Pipeline.pin (pcfgs (F := F)) adm p) c
  | ⟨0, _⟩ => fun c => dat V c

/-- What the core owes and has waited for, on either side of the region. -/
abbrev dues (c : Dev nD) : sProp 𝕄 :=
  iprop(∃ W, ⌜(K (F := F)).WBelow (T c) W (8 * 1)⌝ ∗ owes (c : Thread nD τ) (0 : CellTallies nD τ sig (HIx 1)) W)

-- the launch lemmas are stated over the pinned family of pipelines, and unify with this one only if plain definitions in a type may be unfolded
set_option backward.isDefEq.respectTransparency.types false in
/-- The region: entered with every buffer at `V`, left with every buffer at `left V`. -/
def reg : Pipeline.RegionSeg (pcfgs (F := F)) adm (pdats V) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ _ _ 0 fun _ _ => rfl
  pre c := iprop(unscopedBufs c (V c) ∗ dues (F := F) c)
  post c := iprop(unscopedBufs c (left V c) ∗ dues (F := F) c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V) launch1.win launch1.arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr
      · ipureintro; exact fun p hp => Or.inl (hW p hp)
      iexact HO
    isplitr; · iempintro
    iexact Hrest
  hin c := by
    rw [show (pdats V 0 c).Φ 0 = Pipeline.scopedRest (Ix := HIx 1) (Name := ℕ) (U := UU) (Lvl := ℕ) (Val := Elt F) spec1 c from rfl]
    iintro ⟨-, -, Hr⟩; iexact Hr
  hout c := by
    rw [Pipeline.ownSems0_none, show (pdats V 0 c).Φ (Fin.last _) = Pipeline.scopedRest (Ix := HIx 1) (Name := ℕ) (U := UU) (Lvl := ℕ) (Val := Elt F) spec1 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats V) ((pdats V 0 c).share_full fun _ => rfl) (V c) (left V c) ((pdats V 0 c).arrAt · cfg1.N)
      (fun w => by
        by_cases hw : w = 21
        · subst hw; exact (left_out V c).symm
        · exact ((pdats V 0 c).arrAt_in w ((by decide : ∀ w : Fin 22, w ≠ 21 → (cfg1.win w).isOut = false) w hw) _).trans
            (left_ne V c _ ((by decide : ∀ w : Fin 22, w ≠ 21 → Pipeline.arrRef spec1 w ≠ main_v31) w hw)).symm)
      (fun b hb => left_ne V c b fun h => hb (h ▸ Finset.mem_image.mpr ⟨21, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | ⟨w, s, rfl⟩
      · exact h
      · exact Nat.zero_le _
    iexact HO

end Cert.Proof.Region

end
-- ==== Proof.Host.lean ====
/-
  The host's part of the program: the two straight lines of operations around the SparseCore call, and the whole
  program as those two lines, the call and the TensorCore's kernel.
-/
module

public import proofs.«01_k».proof.Proof.Call
public import proofs.«01_k».proof.Proof.Region
public import Idealize.ShloMosaic.Lib.StableHlo.Run

@[expose] public section

noncomputable section

namespace Cert.Proof.Host

open Cert.KernelIdeal Cert.KernelIdeal.Gen Cert.Proof.Setup
open Idealize.ShloMosaic
open Idealize.ShloMosaic.TcCoe Idealize.ShloMosaic.Tactic
open Idealize.ShloMosaic.StableHlo (seq after nullary_bufs_sub unary_bufs_sub binary_bufs_sub reshape_bufs_sub)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

/-- Before the call: the flat row numbers and the flat table. -/
def opsA : List (HloOp τ sig (Elt F)) := [
    StableHlo.nullary main_v0 (iotaInDim S26 32 0),
    StableHlo.nullary main_c (constantI S_ 32 1000000#32),
    StableHlo.unary main_c main_v1 (broadcastInDim S26 ![] bcast_S_S26 : (⟨S_, .i32⟩ : BufTy).Contents (Elt F) → (⟨S26, .i32⟩ : BufTy).Contents (Elt F)),
    StableHlo.binary main_v0 main_v1 main_v2 (muli : (⟨S26, .i32⟩ : BufTy).Contents (Elt F) → (⟨S26, .i32⟩ : BufTy).Contents (Elt F) → (⟨S26, .i32⟩ : BufTy).Contents (Elt F)),
    StableHlo.unary main_v2 main_v3 (broadcastInDim S1x26 ![1] bcast_S26_S1x26_1 : (⟨S26, .i32⟩ : BufTy).Contents (Elt F) → (⟨S1x26, .i32⟩ : BufTy).Contents (Elt F)),
    StableHlo.unary main_v3 main_v4 (broadcastInDim S4096x26 ![0, 1] bcast_S1x26_S4096x26_0_1 : (⟨S1x26, .i32⟩ : BufTy).Contents (Elt F) → (⟨S4096x26, .i32⟩ : BufTy).Contents (Elt F)),
    StableHlo.binary main_arg0 main_v4 main_v5 (addi : (⟨S4096x26, .i32⟩ : BufTy).Contents (Elt F) → (⟨S4096x26, .i32⟩ : BufTy).Contents (Elt F) → (⟨S4096x26, .i32⟩ : BufTy).Contents (Elt F)),
    StableHlo.reshape main_v5 main_v6 (rfl : (.i32 : EltTy) = .i32) shapeCasts_S4096x26_S32x26x128,
    StableHlo.reshape main_arg2 main_v7 (rfl : (.f32 : EltTy) = .f32) shapeCasts_S26x1000000x16_S26000000x16]

/-- Between the call and the kernel: the gathered rows, the parameters and the weights in the kernel's shapes. -/
def opsB : List (HloOp τ sig (Elt F)) := [
    StableHlo.reshape main_v8 main_v9 (rfl : (.f32 : EltTy) = .f32) shapeCasts_S106496x16_S4096x416,
    StableHlo.reshape main_arg3 main_v10 (rfl : (.f32 : EltTy) = .f32) shapeCasts_S13_S1x13,
    StableHlo.reshape main_arg4 main_v11 (rfl : (.f32 : EltTy) = .f32) shapeCasts_S13_S1x13,
    StableHlo.reshape main_arg5 main_v12 (rfl : (.f32 : EltTy) = .f32) shapeCasts_S13_S1x13,
    StableHlo.reshape main_arg6 main_v13 (rfl : (.f32 : EltTy) = .f32) shapeCasts_S13_S1x13,
    StableHlo.unary main_arg7 main_v14 ((extractStridedSlice S256x416 ![0, 0] · slices_S256x429_S256x416_0_0) : (⟨S256x429, .f32⟩ : BufTy).Contents (Elt F) → (⟨S256x416, .f32⟩ : BufTy).Contents (Elt F)),
    StableHlo.unary main_v14 main_v15 ((transpose S416x256 [1, 0] · transposes_S256x416_S416x256_1_0) : (⟨S256x416, .f32⟩ : BufTy).Contents (Elt F) → (⟨S416x256, .f32⟩ : BufTy).Contents (Elt F)),
    StableHlo.unary main_arg7 main_v16 ((extractStridedSlice S256x13 ![0, 416] · slices_S256x429_S256x13_0_416) : (⟨S256x429, .f32⟩ : BufTy).Contents (Elt F) → (⟨S256x13, .f32⟩ : BufTy).Contents (Elt F)),
    StableHlo.unary main_v16 main_v17 ((transpose S13x256 [1, 0] · transposes_S256x13_S13x256_1_0) : (⟨S256x13, .f32⟩ : BufTy).Contents (Elt F) → (⟨S13x256, .f32⟩ : BufTy).Contents (Elt F)),
    StableHlo.reshape main_arg8 main_v18 (rfl : (.f32 : EltTy) = .f32) shapeCasts_S256_S1x256,
    StableHlo.reshape main_arg9 main_v19 (rfl : (.f32 : EltTy) = .f32) shapeCasts_S256_S1x256,
    StableHlo.reshape main_arg10 main_v20 (rfl : (.f32 : EltTy) = .f32) shapeCasts_S256_S1x256,
    StableHlo.reshape main_arg11 main_v21 (rfl : (.f32 : EltTy) = .f32) shapeCasts_S256_S1x256,
    StableHlo.reshape main_arg12 main_v22 (rfl : (.f32 : EltTy) = .f32) shapeCasts_S256_S1x256,
    StableHlo.unary main_arg13 main_v23 ((transpose S256x128 [1, 0] · transposes_S128x256_S256x128_1_0) : (⟨S128x256, .f32⟩ : BufTy).Contents (Elt F) → (⟨S256x128, .f32⟩ : BufTy).Contents (Elt F)),
    StableHlo.reshape main_arg14 main_v24 (rfl : (.f32 : EltTy) = .f32) shapeCasts_S128_S1x128,
    StableHlo.reshape main_arg15 main_v25 (rfl : (.f32 : EltTy) = .f32) shapeCasts_S128_S1x128,
    StableHlo.reshape main_arg16 main_v26 (rfl : (.f32 : EltTy) = .f32) shapeCasts_S128_S1x128,
    StableHlo.reshape main_arg17 main_v27 (rfl : (.f32 : EltTy) = .f32) shapeCasts_S128_S1x128,
    StableHlo.reshape main_arg18 main_v28 (rfl : (.f32 : EltTy) = .f32) shapeCasts_S128_S1x128,
    StableHlo.unary main_arg19 main_v29 ((transpose S128x1 [1, 0] · transposes_S1x128_S128x1_1_0) : (⟨S1x128, .f32⟩ : BufTy).Contents (Elt F) → (⟨S128x1, .f32⟩ : BufTy).Contents (Elt F)),
    StableHlo.reshape main_arg20 main_v30 (rfl : (.f32 : EltTy) = .f32) shapeCasts_S1_S1x1]

/-- The program. -/
theorem main_eq (d : Dev nD) : main (F := F) d = (seq opsA >>= fun _ => (K (F := F)).run d 0 >>= fun _ => seq opsB >>= fun _ =>
    Prog.lift (.customCall (SparseCore.inner (Pipeline.entry 0)) ()) >>= fun _ => pure ⟨⟩) := rfl

theorem opsA_sub : (opsA (F := F)).Forall fun op => op.bufs ⊆ StableHlo.tcRefs τ sig :=
  ⟨nullary_bufs_sub .., nullary_bufs_sub .., unary_bufs_sub .., binary_bufs_sub .., unary_bufs_sub .., unary_bufs_sub .., binary_bufs_sub .., reshape_bufs_sub .., reshape_bufs_sub ..⟩
theorem opsB_sub : (opsB (F := F)).Forall fun op => op.bufs ⊆ StableHlo.tcRefs τ sig :=
  ⟨reshape_bufs_sub .., reshape_bufs_sub .., reshape_bufs_sub .., reshape_bufs_sub .., reshape_bufs_sub .., unary_bufs_sub .., unary_bufs_sub .., unary_bufs_sub .., unary_bufs_sub .., reshape_bufs_sub .., reshape_bufs_sub .., reshape_bufs_sub .., reshape_bufs_sub .., reshape_bufs_sub .., unary_bufs_sub .., reshape_bufs_sub .., reshape_bufs_sub .., reshape_bufs_sub .., reshape_bufs_sub .., reshape_bufs_sub .., unary_bufs_sub .., reshape_bufs_sub ..⟩
theorem opsA_fresh : (opsA (F := F)).Forall fun op => op.fresh = ∅ := StableHlo.forall_fresh_of_map rfl
theorem opsB_fresh : (opsB (F := F)).Forall fun op => op.fresh = ∅ := StableHlo.forall_fresh_of_map rfl

/-- What the two lines write. -/
abbrev wroteA : List (Ref sig .tc) := [main_v0, main_c, main_v1, main_v2, main_v3, main_v4, main_v5, main_v6, main_v7]
abbrev wroteB : List (Ref sig .tc) := [main_v9, main_v10, main_v11, main_v12, main_v13, main_v14, main_v15, main_v16, main_v17, main_v18, main_v19, main_v20, main_v21, main_v22, main_v23, main_v24, main_v25, main_v26, main_v27, main_v28, main_v29, main_v30]
theorem opsA_writes : (opsA (F := F)).Forall fun op => op.writes ⊆ (wroteA.map (Proc.devRef (τ := τ) .tc)).toFinset :=
  StableHlo.forall_writes_sub_of_map rfl
theorem opsB_writes : (opsB (F := F)).Forall fun op => op.writes ⊆ (wroteB.map (Proc.devRef (τ := τ) .tc)).toFinset :=
  StableHlo.forall_writes_sub_of_map rfl

end Cert.Proof.Host

end
-- ==== Proof.Main.lean ====
/-
  The whole program's run: from any launch memory whose row numbers are rows of the table, every thread finishes, the
  semaphores come back to zero and every buffer of the program holds a known value.
-/
module

public import proofs.«01_k».proof.Proof.Host

@[expose] public section

noncomputable section

namespace Cert.Proof.Main

open Cert.KernelIdeal Cert.KernelIdeal.Gen Cert.Proof.Setup Cert.Proof.Host Cert.Proof.Region
open Idealize.ShloMosaic
open Idealize.ShloMosaic.TcCoe Idealize.ShloMosaic.Tactic
open Idealize.ShloMosaic.SparseCore (S V T)
open Idealize.ShloMosaic.SparseCore.Cfg (HIx Pay)
open Idealize.ShloMosaic.StableHlo (seq after held tcRefs launchContents)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

variable (m : (ℓ : Loc nD τ sig) → Buf (Elt F) ℓ) (ρ : Dev nD → PrngReg)

/-! ## What the buffers hold -/

/-- When the call starts, -/
def valA (d : Dev nD) : Valuation τ sig (Elt F) := after opsA (launchContents m d)
/-- the row numbers, the table and the result's array it starts from, -/
abbrev ixOf (d : Dev nD) : S32x26x128.Idx → BitVec 32 := valA m d main_v6
abbrev tabOf (d : Dev nD) : S26000000x16.Idx → Elt F .f32 := valA m d main_v7
abbrev foOf (d : Dev nD) : S106496x16.Idx → Elt F .f32 := valA m d main_v8
/-- when it has returned, -/
def valC (d : Dev nD) : Valuation τ sig (Elt F) :=
  Function.update (valA m d) (Proc.devRef .tc main_v8) (gathered (tabOf m d) (ixOf m d))
/-- and when the kernel starts. -/
def valB (d : Dev nD) : Valuation τ sig (Elt F) := after opsB (valC m d)
abbrev atKernel : Vals F := fun d b => valB m d b

/-! ## The thread state -/

/-- The buffers of the TensorCore. -/
def ucRefs : Finset (DevRef τ sig) := (tcRefs τ sig).filter fun b => ¬ b.isScoped

theorem unscopedBufs_held (d : Dev nD) (W : Valuation τ sig (Elt F)) :
    (unscopedBufs d (fun b => W b) : sProp 𝕄) = held (d : Thread nD τ) ucRefs W := by
  unfold unscopedBufs held ucRefs tcRefs
  rw [Finset.filter_map, bigSep_map]
  rfl

theorem sub_ucRefs {ops : List (HloOp τ sig (Elt F))} (h : ops.Forall fun op => op.bufs ⊆ tcRefs τ sig) : ∀ op ∈ ops, op.bufs ⊆ ucRefs :=
  fun op hop b hb => Finset.mem_filter.mpr ⟨(List.forall_iff_forall_mem.mp h) op hop hb, fun h' => Bool.false_ne_true ((op.no_scoped b hb).symm.trans h')⟩

/-- The other buffers beside the call's three. -/
def others (d : Dev nD) (W : Valuation τ sig (Elt F)) : sProp 𝕄 :=
  bigSep ((((Finset.univ.filter fun b : Ref sig .tc => ¬ b.isScoped).erase main_v6).erase main_v7).erase main_v8)
    fun b => ((d.tc : Thread nD τ).loc b) ↦{fullShare} W b

theorem three_others (d : Dev nD) (W : Valuation τ sig (Elt F)) : (unscopedBufs d (fun b => W b) : sProp 𝕄)
    = iprop((iLoc d ↦{fullShare} W main_v6) ∗ (tLoc d ↦{fullShare} W main_v7) ∗ (oLoc d ↦{fullShare} W main_v8) ∗ others d W) := by
  unfold unscopedBufs others
  rw [SparseCore.bigSep_erase' (show main_v6 ∈ (Finset.univ.filter fun b : Ref sig .tc => ¬ b.isScoped) by decide),
    SparseCore.bigSep_erase' (show main_v7 ∈ (Finset.univ.filter fun b : Ref sig .tc => ¬ b.isScoped).erase main_v6 by decide),
    SparseCore.bigSep_erase' (show main_v8 ∈ ((Finset.univ.filter fun b : Ref sig .tc => ¬ b.isScoped).erase main_v6).erase main_v7 by decide)]

theorem others_valC (d : Dev nD) : (others d (valC m d) : sProp 𝕄) = others d (valA m d) := by
  unfold others
  refine bigSep_congr fun b hb => ?_
  rw [show valC m d b = valA m d b from Function.update_of_ne (StableHlo.devRef_ne_of_ne (Finset.ne_of_mem_erase hb)) _ _]

theorem valC_v6 (d : Dev nD) : valC m d main_v6 = ixOf m d := Function.update_of_ne (StableHlo.devRef_ne_of_ne (by decide)) _ _
theorem valC_v7 (d : Dev nD) : valC m d main_v7 = tabOf m d := Function.update_of_ne (StableHlo.devRef_ne_of_ne (by decide)) _ _
theorem valC_v8 (d : Dev nD) : valC m d main_v8 = gathered (tabOf m d) (ixOf m d) := Function.update_self _ _ _

/-! ## @main on the TensorCore -/

/-- What the call carries. -/
abbrev PP : (K (F := F)).Pay (nD := nD) (Val := Elt F) (Name := ℕ) (U := UU) := Call.P (ixOf m) (tabOf m) (foOf m)

/-- The kernel's pipeline's share of the launch element, -/
def G (d : Dev nD) : sProp 𝕄 :=
  iprop(Pipeline.cellsGhost (Pipeline.pin (pcfgs (F := F)) adm) EP 0 d ∗ Pipeline.toksInit (Pipeline.pin (pcfgs (F := F)) adm) EP 0 d)

section Run
variable [∀ e, Nonempty (Elt F e)]

/-- and what a device ends with. -/
def FIN (d : Dev nD) : sProp 𝕄 := unscopedBufs d (left (atKernel m) d)

/-- No more is owed once the one call has been made. -/
theorem Otc_one (d : Dev nD) : (K (F := F)).Otc d 1 = 0 := by
  unfold SparseCore.Cfg.Otc
  rw [Fin.sum_univ_one]
  rfl

/-- The kernel's call at the end of the program. -/
theorem wp_kernel (d : Dev nD) (Q : PUnit → sProp 𝕄) :
    iprop((iprop(boundary (d.tc : Thread nD τ) ∗ unscopedBufs d (left (atKernel m) d) ∗ dues (F := F) d) -∗ Q ⟨⟩)
        ∗ boundary (d.tc : Thread nD τ) ∗ (unscopedBufs d (atKernel m d) ∗ dues (F := F) d) ∗ levAts (K (F := F)).L (K (F := F)).lev ∗ G d)
      ⊢ wp frame (wpE ((K (F := F)).defs (D (F := F))) 𝒱 (T d) none) Set.univ
          (Prog.lift (.customCall (SparseCore.inner (Pipeline.entry 0)) ()) >>= fun _ => pure PUnit.unit) Q := by
  have h1 := (K (F := F)).wp_liftProg (D (F := F)) 𝒱 (T d) Set.univ none (.op (.customCall (Pipeline.entry 0) ()) fun _ => pure ⟨⟩) Q
  have h2 := Pipeline.RegionSeg.wp (pcfgs (F := F)) adm (pdats (atKernel m)) none cellOf_inj EP defs₀ 𝒱₀ (K (F := F)).L (K (F := F)).lev (reg (atKernel m)) d
    none (fun _ h => nomatch h) (fun _ => pure ⟨⟩) Q
  rw [show (reg (atKernel m)).pre d = iprop(unscopedBufs d (atKernel m d) ∗ dues (F := F) d) from rfl,
    show (reg (atKernel m)).post d = iprop(unscopedBufs d (left (atKernel m) d) ∗ dues (F := F) d) from rfl] at h2
  refine BIBase.Entails.trans ?_ (h2.trans h1)
  unfold G
  iintro ⟨Hk, Hb, Hpre, Hlev, Hg, Ht⟩
  isplitl [Hk]
  · iintro ⟨Hb, Hpost⟩
    rw [wp_pure]
    imodintro
    iapply Hk
    isplitl [Hb]; · iexact Hb
    iexact Hpost
  isplitl [Hb]; · iexact Hb
  isplitl [Hpre]; · iexact Hpre
  isplitl [Hlev]; · iexact Hlev
  isplitl [Hg]; · iexact Hg
  iexact Ht

set_option backward.isDefEq.respectTransparency.types false in
/-- A list of the host's operations before the rest of the program. -/
theorem wp_ops (d : Dev nD) (ops : List (HloOp τ sig (Elt F))) (hsub : ops.Forall fun op => op.bufs ⊆ tcRefs τ sig)
    (hfresh : ops.Forall fun op => op.fresh = ∅) (W : Valuation τ sig (Elt F))
    (k : PUnit.{1} → Prog (TpuEff nD τ sig (Elt F) (SparseCore.Sig ΛP 1) .tc) PUnit.{1}) (Q : PUnit → sProp 𝕄) :
    iprop((boundary (d.tc : Thread nD τ) ∗ unscopedBufs d (fun b => W b))
        ∗ (iprop(boundary (d.tc : Thread nD τ) ∗ unscopedBufs d (fun b => after ops W b))
            -∗ wp frame (wpE ((K (F := F)).defs (D (F := F))) 𝒱 (T d) none) Set.univ (k ⟨⟩) Q))
      ⊢ wp frame (wpE ((K (F := F)).defs (D (F := F))) 𝒱 (T d) none) Set.univ (seq ops >>= k) Q := by
  rw [unscopedBufs_held, unscopedBufs_held]
  exact BIClass.wand_elim (StableHlo.wp_seq 𝒱 none Set.univ d ucRefs k ops (sub_ucRefs hsub) (List.forall_iff_forall_mem.mp hfresh) W)

/-- The call between: its three arrays go to the SparseCore and come back, the result's with the gathered rows. -/
theorem wp_call (κ : GSem nD τ sig → ℕ) (d : Dev nD) (Q : PUnit → sProp 𝕄) :
    iprop((K (F := F)).ctx EH (PP m) κ ∗ (K (F := F)).tcSt EH d 0 ∗ unscopedBufs d (fun b => valA m d b)
        ∗ (iprop((K (F := F)).tcSt EH d 1 ∗ unscopedBufs d (fun b => valC m d b)) -∗ Q ⟨⟩))
      ⊢ wp frame (wpE ((K (F := F)).defs (D (F := F))) 𝒱 (T d) none) Set.univ ((K (F := F)).run d 0) Q := by
  refine BIBase.Entails.trans ?_ ((K (F := F)).wp_run (D (F := F)) 𝒱 (EH := EH) (P := PP m) κ d 0)
  rw [three_others d (valA m d), three_others d (valC m d), others_valC, valC_v6, valC_v7, valC_v8,
    show (bigSep Finset.univ fun c : Fin ((K (F := F)).nCore 0) => (PP m).st 0 d c) = _ from Call.st_eq (ixOf m) (tabOf m) (foOf m) d,
    show (bigSep Finset.univ fun c : Fin ((K (F := F)).nCore 0) => (PP m).dn 0 d c) = _ from Call.dn_eq (ixOf m) (tabOf m) (foOf m) d]
  iintro ⟨#Hctx, Hst, ⟨Hi, Ht, Ho, Hr⟩, Hk⟩
  isplitr; · iexact Hctx
  isplitl [Hst]; · iexact Hst
  isplitl [Hi Ht Ho]
  · isplitl [Hi]; · iexact Hi
    isplitl [Ht]; · iexact Ht
    iexact Ho
  iintro ⟨Hst, Hi, Ht, Ho⟩
  iapply Hk
  isplitl [Hst]; · iexact Hst
  isplitl [Hi]; · iexact Hi
  isplitl [Ht]; · iexact Ht
  isplitl [Ho]; · iexact Ho
  iexact Hr

/-- The rest of the program, from the call on. -/
theorem wp_rest (κ : GSem nD τ sig → ℕ) (d : Dev nD) :
    iprop((K (F := F)).ctx EH (PP m) κ ∗ (K (F := F)).tcSt EH d 0 ∗ boundary (d.tc : Thread nD τ) ∗ unscopedBufs d (fun b => valA m d b)
        ∗ (K (F := F)).tcSems0 d ∗ G d)
      ⊢ wp frame (wpE ((K (F := F)).defs (D (F := F))) 𝒱 (T d) none) Set.univ
          ((K (F := F)).run d 0 >>= fun _ => seq opsB >>= fun _ =>
            Prog.lift (.customCall (SparseCore.inner (Pipeline.entry 0)) ()) >>= fun _ => pure PUnit.unit)
          fun _ => iprop((K (F := F)).tcSt EH d 1 ∗ FIN m d ∗ (boundary (d.tc : Thread nD τ) ∗ (K (F := F)).tcSems0 d)) := by
  rw [wp_bind]
  iintro ⟨#Hctx, Hst, Hb, Hbufs, Hts, HG⟩
  ihave #Hlev := ((K (F := F)).ctx_levAts κ) $$ Hctx
  iapply (wp_call m κ d)
  isplitr; · iexact Hctx
  isplitl [Hst]; · iexact Hst
  isplitl [Hbufs]; · iexact Hbufs
  iintro ⟨Hst, Hbufs⟩
  iapply (wp_ops d opsB opsB_sub opsB_fresh (valC m d))
  isplitl [Hb Hbufs]
  · isplitl [Hb] <;> iassumption
  iintro ⟨Hb, Hbufs⟩
  unfold SparseCore.Cfg.tcSt
  icases Hst with ⟨HW, Hpos⟩
  iapply (wp_kernel m d)
  isplitl [Hpos Hts]
  · iintro ⟨Hb, Hbufs, HW⟩
    isplitl [HW Hpos]
    · isplitl [HW]
      · rw [Otc_one]
        iexact HW
      iexact Hpos
    isplitl [Hbufs]
    · unfold FIN
      iexact Hbufs
    isplitl [Hb] <;> iassumption
  isplitl [Hb]; · iexact Hb
  isplitl [Hbufs HW]
  · isplitl [Hbufs]; · iexact Hbufs
    rw [Otc_one]
    iexact HW
  isplitr; · iexact Hlev
  iexact HG

/-- @main on device `d`'s TensorCore. -/
theorem hmain (κ : GSem nD τ sig → ℕ) (d : Dev nD) :
    iprop((K (F := F)).ctx EH (PP m) κ ∗ (K (F := F)).tcSt EH d 0 ∗ (K (F := F)).tcRes m ρ d ∗ G d)
      ⊢ wp frame (wpE ((K (F := F)).defs (D (F := F))) 𝒱 (T d) none) Set.univ (main d)
          fun _ => iprop((K (F := F)).tcSt EH d 1 ∗ FIN m d ∗ (K (F := F)).tcEnd d) := by
  rw [main_eq]
  refine BIBase.Entails.trans ?_ (wp_ops d opsA opsA_sub opsA_fresh (launchContents m d) _ _)
  unfold SparseCore.Cfg.tcRes
  iintro ⟨#Hctx, Hst, ⟨Hb, Hbufs, Hts, -⟩, HG⟩
  isplitl [Hb Hbufs]
  · isplitl [Hb]; · iexact Hb
    iexact Hbufs
  iintro ⟨Hb, Hbufs⟩
  iapply (wp_rest m κ d)
  isplitr; · iexact Hctx
  isplitl [Hst]; · iexact Hst
  isplitl [Hb]; · iexact Hb
  isplitl [Hbufs]; · iexact Hbufs
  isplitl [Hts] <;> iassumption

/-! ## The launch and the end -/

/-- The launch element: the handshake's ghost state and the kernel's pipeline's. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (PP m).x q thr) := by
  unfold u₀
  iintro Hu
  ihave H := (ownU_pair (initOf (K (F := F)).hsCells (K (F := F)).hsToks)
    (initOf (Pipeline.cells (Pipeline.pin (pcfgs (F := F)) adm) cellOf_inj) (Pipeline.launchToks (Pipeline.pin (pcfgs (F := F)) adm) cellOf_inj), (1 : Counters))) $$ Hu
  icases H with ⟨HH, HR⟩
  ihave HR := (own_pair_emb embR (initOf (Pipeline.cells (Pipeline.pin (pcfgs (F := F)) adm) cellOf_inj) (Pipeline.launchToks (Pipeline.pin (pcfgs (F := F)) adm) cellOf_inj)) (1 : Counters)) $$ HR
  icases HR with ⟨HP, -⟩
  ihave HP := (Pipeline.fund_ghost (Pipeline.pin (pcfgs (F := F)) adm) EP cellOf_inj) $$ HP
  imod HP
  icases HP with ⟨Hg, Ht⟩
  imodintro
  isplitl [HH]; · iexact HH
  isplitl [Hg Ht]
  · rw [show (bigSep Finset.univ fun d : Dev nD => G (F := F) d) = iprop((bigSep Finset.univ fun d : Dev nD => Pipeline.cellsGhost (Pipeline.pin (pcfgs (F := F)) adm) EP 0 d)
        ∗ bigSep Finset.univ fun d : Dev nD => Pipeline.toksInit (Pipeline.pin (pcfgs (F := F)) adm) EP 0 d) from bigSep_sep' _ _ _]
    isplitl [Hg]
    · iapply (Entails.of_eq (bigSep_congr fun (d : Dev nD) _ => bigSep_univ_of_subsingleton
        (Φ := fun p : Fin 1 => (Pipeline.cellsGhost (Pipeline.pin (pcfgs (F := F)) adm) EP p d : sProp 𝕄)) (0 : Fin 1)))
      iexact Hg
    iapply (Entails.of_eq (bigSep_congr fun (d : Dev nD) _ => bigSep_univ_of_subsingleton
      (Φ := fun p : Fin 1 => (Pipeline.toksInit (Pipeline.pin (pcfgs (F := F)) adm) EP p d : sProp 𝕄)) (0 : Fin 1)))
    iexact Ht
  rw [show (bigSep Finset.univ fun thr : Thread nD τ => bigSep Finset.univ fun q : Fin 1 => (PP (F := F) m).x q thr) = bigSep Finset.univ fun _ => iprop(emp) from
    bigSep_congr fun _ _ => bigSep_univ_of_subsingleton (0 : Fin 1),
    show (bigSep Finset.univ fun _ : Thread nD τ => iprop(emp)) = (iprop(emp) : sProp 𝕄) from bigSep_emp_const _]
  iempintro

/-- What the program leaves: every buffer of the TensorCore at its value. -/
def fq (d : Dev nD) (s' : Phys nD τ sig (Elt F)) : Prop :=
  ∀ b : Ref sig .tc, ¬ b.isScoped → s'.mem.mem ((d.tc : Thread nD τ).loc b) = left (atKernel m) d b

theorem hfin (d : Dev nD) (s' : Phys nD τ sig (Elt F)) : iprop(FIN m d ∗ SI s') ⊢ (⌜fq m d s'⌝ : sProp 𝕄) := by
  have one (b : Ref sig .tc) (hb : ¬ b.isScoped) :
      iprop(FIN m d ∗ SI s') ⊢ (⌜s'.mem.mem ((d.tc : Thread nD τ).loc b) = left (atKernel m) d b⌝ : sProp 𝕄) := by
    unfold FIN unscopedBufs
    rw [SparseCore.bigSep_erase' (Finset.mem_filter.mpr ⟨Finset.mem_univ b, hb⟩)]
    iintro ⟨⟨Hb, -⟩, HSI⟩
    ihave H := (SI_pointsTo_agree (st := s') (ℓ := (d.tc : Thread nD τ).loc b) (I := Finset.univ) (q := fullShare) (f := left (atKernel m) d b)) $$ [HSI Hb]
    · isplitl [HSI] <;> iassumption
    icases H with %h
    ipureintro
    exact funext fun i => h i (Finset.mem_univ i)
  unfold fq
  refine BIBase.Entails.trans ?_ pure_forall.2
  refine forall_intro fun b => ?_
  by_cases hb : b.isScoped
  · exact BIClass.pure_intro fun h => absurd hb h
  · exact (one b hb).trans (Laws.pure_mono fun h _ => h)

/-- What the run leaves. -/
def QC : PUnit × MemSt nD τ sig (Elt F) → Prop := fun r =>
  (∀ (d : Dev nD) (b : Ref sig .tc), ¬ b.isScoped → r.2.mem ((d.tc : Thread nD τ).loc b) = left (atKernel m) d b) ∧ r.2.sem = fun _ => 0

/-- The program's run. -/
theorem run_main (hix : ∀ d p, (ixOf m d p).toNat < 26000000) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => Call.tileObl (ixOf m) (tabOf m) (foOf m) hix)
    (fun q _ => match q with | 0 => SparseCore.Cfg.VecSplit.of_plain (Call.vecSplit (ixOf m) (tabOf m) (foOf m)))
    m ρ main (fun d => G d) (FIN m) (u₀ (F := F)) (sep_elim_left.trans (hu₀ m)) (hmain m ρ) (fq m) (hfin m) (QC m) (fun _ h hz => ⟨h, hz⟩)

end Run

end Cert.Proof.Main

end
-- ==== Proof.Values.lean ====
/-
  The arrays the SparseCore call and the kernel are given, as functions of the program's arguments.
-/
module

public import proofs.«01_k».proof.Proof.Main
public import Idealize.ShloMosaic.Lib.ReduceAll

@[expose] public section

noncomputable section

namespace Cert.Proof.Values

open Cert.KernelIdeal Cert.KernelIdeal.Gen Cert.Proof.Setup Cert.Proof.Host Cert.Proof.Main
open Idealize.ShloMosaic Idealize.ShloMosaic.ValueIdx
open Idealize.ShloMosaic.TcCoe Idealize.ShloMosaic.Tactic
open Idealize.ShloMosaic.StableHlo (seq after held tcRefs launchContents after_of_writes_sub)

variable {F : FTy → Type} [FloatOps F]

variable (m : (ℓ : Loc nD τ sig) → Buf (Elt F) ℓ) (d : Dev nD)

/-- The row of the flat table that entry `(b, f)` names: the word plus the million rows of each earlier field. -/
def flatRows (x : S4096x26.Idx → BitVec 32) : S4096x26.Idx → BitVec 32 := fun p => x p + BitVec.ofNat 32 (p 1).val * 1000000#32

theorem ix_eq : ixOf m d = shapeCast S32x26x128 (flatRows (m ((d.tc : Thread nD τ).loc main_arg0))) shapeCasts_S4096x26_S32x26x128 := by
  unfold ixOf valA opsA
  after_results
  rfl

theorem tab_eq : tabOf m d = shapeCast S26000000x16 (m ((d.tc : Thread nD τ).loc main_arg2)) shapeCasts_S26x1000000x16_S26000000x16 := by
  unfold tabOf valA opsA
  after_results
  rfl

/-- A word in range, moved to its field's rows, stays in the table. -/
theorem flatRows_toNat (x : S4096x26.Idx → BitVec 32) (p : S4096x26.Idx) (hx : (x p).toNat < 1000000) :
    (flatRows x p).toNat = (x p).toNat + (p 1).val * 1000000 := by
  have h1 : (p 1).val < 26 := (p 1).isLt
  unfold flatRows
  simp only [BitVec.toNat_add, BitVec.toNat_mul, BitVec.toNat_ofNat]
  omega

theorem ix_lt (hx : ∀ p, (m ((d.tc : Thread nD τ).loc main_arg0) p).toNat < 1000000) (p : S32x26x128.Idx) : (ixOf m d p).toNat < 26000000 := by
  rw [ix_eq]
  unfold shapeCast
  rw [flatRows_toNat _ _ (hx _)]
  have := hx (Shape.reshapeEquiv shapeCasts_S4096x26_S32x26x128 p)
  have : ((Shape.reshapeEquiv shapeCasts_S4096x26_S32x26x128 p) 1).val < 26 := Fin.isLt _
  omega

/-- The program leaves an argument as it was. -/
theorem left_arg [∀ e, Nonempty (Elt F e)] (b : Ref sig .tc) (h0 : b ≠ main_v31) (hB : b ∉ wroteB) (h8 : b ≠ main_v8) (hA : b ∉ wroteA) :
    Region.left (atKernel m) d b = m ((d.tc : Thread nD τ).loc b) := by
  rw [Region.left_ne _ _ _ h0]
  show after opsB (valC m d) (Proc.devRef .tc b) = _
  rw [after_of_writes_sub opsB _ opsB_writes hB]
  show valC m d (Proc.devRef .tc b) = _
  unfold valC
  rw [Function.update_of_ne (StableHlo.devRef_ne_of_ne h8)]
  exact after_of_writes_sub opsA _ opsA_writes hA

end Cert.Proof.Values

end
-- ==== Proof.Same.lean ====
/-
  The word program and the idealized one have one text: the bodies of the first are the bodies of the second.
-/
module

public import proofs.«01_k».proof.Kernel
public import proofs.«01_k».proof.KernelIdeal
public import proofs.«01_k».proof.Proof.Gen.Kernel
public import proofs.«01_k».proof.Proof.Gen.KernelIdeal

@[expose] public section

noncomputable section

namespace Cert.Proof.Same

open Idealize.ShloMosaic

variable {F : FTy → Type} [FloatOps F]

set_option maxHeartbeats 1000000 in
/-- The two programs' bodies agree on every processor at every label. -/
theorem bodies_eq : (Cert.Kernel.defs₀ (F := F) : Defs Cert.KernelIdeal.nD Cert.KernelIdeal.τ Cert.KernelIdeal.sig (Elt F) Cert.KernelIdeal.Λ₀)
    = Cert.KernelIdeal.defs₀ (F := F) := by
  funext p l a
  rcases p with _ | c | ⟨c, s⟩
  · match l with
    | 0 => rfl
    | 1 => rfl
  · match l with
    | 0 => rfl
    | 1 => rfl
  · match l with
    | 0 => rfl
    | 1 => rfl

set_option maxHeartbeats 1000000 in
/-- So do their definitions, the pipelines' and the calls' included. -/
theorem defs_eq : (Cert.Kernel.defs (F := F) : Defs Cert.KernelIdeal.nD Cert.KernelIdeal.τ Cert.KernelIdeal.sig (Elt F) _) = Cert.KernelIdeal.defs (F := F) :=
  congrArg (fun D => Cert.KernelIdeal.sc.defs (Pipeline.defs Cert.KernelIdeal.pcfgs D)) bodies_eq

end Cert.Proof.Same

end
-- ==== Proof.Frames.lean ====
/-
  The range of the row numbers, and the runs of the four programs' frames.
-/
module

public import proofs.«01_k».proof.Proof.Values
public import proofs.«01_k».proof.Proof.Same
public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Gen.Pre_rows_in_table

@[expose] public section

noncomputable section

namespace Cert.Proof.Frames

open Cert.KernelIdeal Cert.KernelIdeal.Gen Cert.Proof.Setup Cert.Proof.Host Cert.Proof.Main Cert.Proof.Values
open Idealize.ShloMosaic Idealize.SL.Sem
open Idealize.ShloMosaic.TcCoe

theorem word_lt (v : BitVec 32) (e : IntOp.andi (IntOp.cmpi .sge v 0#32) (IntOp.cmpi .slt v 1000000#32) = 1#1) : v.toNat < 1000000 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

variable {F : FTy → Type} [FloatOps F] [∀ e, Nonempty (Elt F e)]
variable (m : (ℓ : Loc nD τ sig) → Buf (Elt F) ℓ)

/-- Every entry of the categorical array is a row of its table. -/
def RowsOK : Prop := ∀ (d : Dev nD) p, (m ((d.tc : Thread nD τ).loc main_arg0) p).toNat < 1000000

/-- Every argument at its launch contents. -/
def Kept (r : PUnit × MemSt nD τ sig (Elt F)) : Prop :=
  ∀ (d : Dev nD) (b : Ref sig .tc), ¬ b.isScoped → b ≠ main_v31 → b ∉ wroteB → b ≠ main_v8 → b ∉ wroteA →
    r.2.mem ((d.tc : Thread nD τ).loc b) = m ((d.tc : Thread nD τ).loc b)

theorem kept_of_QC {r : PUnit × MemSt nD τ sig (Elt F)} (h : QC m r) : Kept m r :=
  fun d b hb h0 hB h8 hA => (h.1 d b hb).trans (left_arg m d b h0 hB h8 hA)

/-- The precondition's one word is 1 only where every entry is in range. -/
theorem rows_of_fn {x : S4096x26.Idx → BitVec 32} {x1 x2 x3 x4 x5 x6 x7 x8 x9 x10 x11 x12 x13 x14 x15 x16 x17 x18 x19 x20}
    (h : Cert.Pre_rows_in_table.fn (F := F) x x1 x2 x3 x4 x5 x6 x7 x8 x9 x10 x11 x12 x13 x14 x15 x16 x17 x18 x19 x20 = fun _ => 1#1) (p : S4096x26.Idx) :
    (x p).toNat < 1000000 := by
  haveI : Subsingleton Cert.Pre_rows_in_table.S_.Idx := ⟨fun a b => funext fun i => i.elim0⟩
  have e := Host.reduce_andi_all _ _ _ _ _ (congrFun h fun i => i.elim0) p
  exact word_lt _ e

theorem rows_ideal {m : (ℓ : Loc nD τ sig) → Buf (Elt Ideal) ℓ} (h : Cert.Pre_KernelIdeal m) : RowsOK m := fun d p => rows_of_fn (h d) p
theorem rows_bits {m : (ℓ : Loc nD τ sig) → Buf (Elt Bits) ℓ} (h : Cert.Pre_Kernel m) : RowsOK m := fun d p => rows_of_fn (h d) p

/-- The program's run, its precondition read. -/
theorem run_rows (ρ : Dev nD → PrngReg) (h : RowsOK m) :
    θ_run (Cert.KernelIdeal.defs (F := F)) (Cert.KernelIdeal.threads (F := F)) ⟨m, fun _ => 0, ρ⟩ (QC m) :=
  run_main m ρ fun d p => ix_lt m d (h d) p

/-- The arguments after the run, in order. -/
theorem args_kept {r : PUnit × MemSt nD τ sig (Elt F)} (h : QC m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) := by
  have k := fun b h1 h2 h3 h4 h5 => kept_of_QC m h c b h1 h2 h3 h4 h5
  exact ⟨k main_arg0 (by decide) (by decide) (by decide) (by decide) (by decide), k main_arg1 (by decide) (by decide) (by decide) (by decide) (by decide), k main_arg2 (by decide) (by decide) (by decide) (by decide) (by decide), k main_arg3 (by decide) (by decide) (by decide) (by decide) (by decide), k main_arg4 (by decide) (by decide) (by decide) (by decide) (by decide), k main_arg5 (by decide) (by decide) (by decide) (by decide) (by decide), k main_arg6 (by decide) (by decide) (by decide) (by decide) (by decide), k main_arg7 (by decide) (by decide) (by decide) (by decide) (by decide), k main_arg8 (by decide) (by decide) (by decide) (by decide) (by decide), k main_arg9 (by decide) (by decide) (by decide) (by decide) (by decide), k main_arg10 (by decide) (by decide) (by decide) (by decide) (by decide), k main_arg11 (by decide) (by decide) (by decide) (by decide) (by decide), k main_arg12 (by decide) (by decide) (by decide) (by decide) (by decide), k main_arg13 (by decide) (by decide) (by decide) (by decide) (by decide), k main_arg14 (by decide) (by decide) (by decide) (by decide) (by decide), k main_arg15 (by decide) (by decide) (by decide) (by decide) (by decide), k main_arg16 (by decide) (by decide) (by decide) (by decide) (by decide), k main_arg17 (by decide) (by decide) (by decide) (by decide) (by decide), k main_arg18 (by decide) (by decide) (by decide) (by decide) (by decide), k main_arg19 (by decide) (by decide) (by decide) (by decide) (by decide), k main_arg20 (by decide) (by decide) (by decide) (by decide) (by decide)⟩

/-- The arguments of a final state are those of the launch memory. -/
def ArgsKept (r : PUnit × MemSt nD τ sig (Elt F)) : Prop :=
  ∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)

theorem frame_any (ρ : Dev nD → PrngReg) (h : RowsOK m) :
    θ_run (Cert.KernelIdeal.defs (F := F)) (Cert.KernelIdeal.threads (F := F)) ⟨m, fun _ => 0, ρ⟩ fun r => ArgsKept m r ∧ r.2.sem = fun _ => 0 :=
  (θ_run Cert.KernelIdeal.defs _ _).mono (fun _ hr => ⟨fun c => args_kept m hr c, hr.2⟩) (run_rows m ρ h)

theorem frame_ideal : Cert.quiescent_KernelIdeal := fun m ρ h => frame_any m ρ (rows_ideal h)

set_option maxHeartbeats 1000000 in
theorem frame_kernel : Cert.quiescent_Kernel := fun m ρ h => by
  have k := frame_any (F := Bits) m ρ (rows_bits h)
  rw [← Same.defs_eq] at k
  exact k

/-- The reference declares no semaphore, and its run keeps every argument. -/
theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

end Cert.Proof.Frames

end
-- ==== Proof.Spec.lean ====
/-
  One row of the answer, as a function of the row's gathered table entries, its numerics and the weights: the
  normalisation spelt with a reciprocal root, which is the quotient by the root where the argument is positive, and the
  three layers.
-/
module

public import Idealize.ShloMosaic.PureOps.Ideal.Laws
public import Idealize.ShloMosaic.Lib.ValueIdx
public import Idealize.ShloMosaic.Lib.ValueLayout
public import Idealize.ShloMosaic.Lib.IdealHost

@[expose] public section

noncomputable section

namespace Cert.Proof.Spec

open Idealize.ShloMosaic Idealize.ShloMosaic.ValueIdx
open scoped BigOperators

/-- What both programs add to a variance: the float nearest to 1e-5. -/
def eps : EReal := Ideal.ofBits .f32 0x3727C5AC#32

/-- A quotient by a root of a positive number is the product with its reciprocal root. -/
theorem div_sqrt (x w : EReal) (hw : 0 < w) : Ideal.div x (Ideal.sqrt w) = x * Ideal.rsqrt w := by
  induction w using EReal.rec with
  | bot => exact absurd hw (by simp)
  | top => simp [Ideal.div]
  | coe r =>
    have hr : 0 < r := by exact_mod_cast hw
    have hs : Real.sqrt r ≠ 0 := (Real.sqrt_pos.2 hr).ne'
    have h0 : ¬ ((Real.sqrt r : ℝ) : EReal) = 0 := by exact_mod_cast hs
    rw [Ideal.sqrt_coe, Ideal.rsqrt_coe, if_neg hr.not_gt, if_neg hr.not_gt, if_neg hr.ne']
    unfold Ideal.div
    rw [if_neg h0, EReal.coe_inv]

/-- A value normalised by a mean and a variance, scaled and shifted. -/
def norm (x μ v g b : EReal) : EReal := (x - μ) * Ideal.rsqrt (v + eps) * g + b

/-- The same value by a quotient. -/
theorem norm_eq (x μ v g b : EReal) (hv : 0 < v + eps) : Ideal.div (x - μ) (Ideal.sqrt (v + eps)) * g + b = norm x μ v g b := by
  unfold norm; rw [div_sqrt _ _ hv]

/-- Entry `k` of the first layer: the categorical and the numeric part of the product, the bias, and the positive part. -/
def hid0 (e : Fin 416 → EReal) (n : Fin 13 → EReal) (Wc : Fin 416 → Fin 256 → EReal) (Wn : Fin 13 → Fin 256 → EReal) (b : Fin 256 → EReal) (k : Fin 256) : EReal :=
  max ((∑ j, e j * Wc j k) + (∑ j, n j * Wn j k) + b k) 0

/-- Entry `k` of the second layer. -/
def hid1 (h : Fin 256 → EReal) (W : Fin 256 → Fin 128 → EReal) (b : Fin 128 → EReal) (k : Fin 128) : EReal :=
  max ((∑ j, h j * W j k) + b k) 0

/-- The row's answer. -/
def last (h : Fin 128 → EReal) (W : Fin 128 → EReal) (b : EReal) : EReal := (∑ j, h j * W j) + b

/-- The row's answer, all the way from its gathered entries and its normalised numerics. -/
def rowOut (e : Fin 416 → EReal) (n : Fin 13 → EReal) (Wc : Fin 416 → Fin 256 → EReal) (Wn : Fin 13 → Fin 256 → EReal)
    (b0 m0 v0 g0 be0 : Fin 256 → EReal) (W1 : Fin 256 → Fin 128 → EReal) (b1 m1 v1 g1 be1 : Fin 128 → EReal) (W2 : Fin 128 → EReal) (b2 : EReal) : EReal :=
  last (fun j => norm (hid1 (fun i => norm (hid0 e n Wc Wn b0 i) (m0 i) (v0 i) (g0 i) (be0 i)) W1 b1 j) (m1 j) (v1 j) (g1 j) (be1 j)) W2 b2

/-- A vector down one row and then down many reads the vector at the column. -/
theorem bcast_row {a n : ℕ} {α : Type} (v : (⟨1, ![n]⟩ : Shape).Idx → α)
    (h1 : (⟨1, ![n]⟩ : Shape).BroadcastsInDim ⟨2, ![1, n]⟩ ![1]) (h2 : (⟨2, ![1, n]⟩ : Shape).BroadcastsInDim ⟨2, ![a, n]⟩ ![0, 1])
    (i : Fin a) (j : Fin n) :
    broadcastInDim ⟨2, ![a, n]⟩ ![0, 1] h2 (broadcastInDim ⟨2, ![1, n]⟩ ![1] h1 v) (ix2 i j) = v (ix1 j) := by
  rw [broadcastInDim_apply _ h2 _ _ (ix2 (0 : Fin 1) j) fun ax => ?_, broadcastInDim_apply _ h1 _ _ (ix1 j) fun ax => ?_]
  · match ax with
    | ⟨0, _⟩ =>
      show j.val = if n = 1 then 0 else j.val
      split
      · have := j.isLt; omega
      · rfl
  · match ax with
    | ⟨0, _⟩ => rfl
    | ⟨1, _⟩ =>
      show j.val = if n = 1 then 0 else j.val
      split
      · have := j.isLt; omega
      · rfl

end Cert.Proof.Spec

end
-- ==== Proof.Positive.lean ====
/-
  The precondition of the value claim, read: every category names a row of its table, and each of the three variances is
  positive once the constant has been added.
-/
module

public import proofs.«01_k».proof.Proof.Frames
public import proofs.«01_k».proof.Proof.Spec

@[expose] public section

noncomputable section

namespace Cert.Proof.Positive

open Cert.KernelIdeal Cert.KernelIdeal.Gen Cert.Proof.Frames Cert.Proof.Spec
open Idealize.ShloMosaic Idealize.ShloMosaic.ValueIdx Idealize.SL.Sem
open Idealize.ShloMosaic.TcCoe

/-- The precondition's side conditions. -/
instance facts : Cert.Pre_rows_and_variances.Facts where
  bcast_S_S4096x26 := by decide
  reducesTo_S4096x26_S_d0_1 := by decide
  h_S_ := by decide
  bcast_S_S13 := by decide
  reducesTo_S13_S_d0 := by decide
  bcast_S_S256 := by decide
  reducesTo_S256_S_d0 := by decide
  bcast_S_S128 := by decide
  reducesTo_S128_S_d0 := by decide

theorem both {a b : BitVec 1} (h : IntOp.andi a b = 1#1) : a = 1#1 ∧ b = 1#1 := by
  revert a b; decide

/-- The comparison's word is 1 only where the shifted variance is positive. -/
theorem pos {v : EReal} (h : FloatOps.cmpf (F := Ideal) (φ := .f32) .ogt (FloatOps.addf (F := Ideal) (φ := .f32) v (FloatOps.ofBits .f32 0x3727C5AC#32)) (FloatOps.ofBits .f32 0x00000000#32) = 1#1) :
    0 < v + eps := by
  have h' : BitVec.ofBool (decide (Ideal.ofBits .f32 0x00000000#32 < v + eps)) = 1#1 := h
  have ofBool_eq_one (p : Bool) : (BitVec.ofBool p = 1#1) ↔ p = true := by cases p <;> decide
  rw [ofBool_eq_one, decide_eq_true_eq, Ideal.ofBits_zero_f32] at h'
  exact h'

/-- The precondition's four parts. -/
theorem parts {x : S4096x26.Idx → BitVec 32} {x1 x2 x3 x4 x5 x6 x7 x8 x9 x10 x11 x12 x13 x14 x15 x16 x17 x18 x19 x20}
    (h : Cert.Pre_rows_and_variances.fn (F := Ideal) x x1 x2 x3 x4 x5 x6 x7 x8 x9 x10 x11 x12 x13 x14 x15 x16 x17 x18 x19 x20 = fun _ => 1#1) :
    (∀ p, (x p).toNat < 1000000) ∧ (∀ j, 0 < x6 j + eps) ∧ (∀ j, 0 < x12 j + eps) ∧ ∀ j, 0 < x18 j + eps := by
  haveI : Subsingleton Cert.Pre_rows_and_variances.S_.Idx := ⟨fun a b => funext fun i => i.elim0⟩
  have e := congrFun h fun i => i.elim0
  obtain ⟨e, e1⟩ := both e
  obtain ⟨e, e0⟩ := both e
  obtain ⟨er, en⟩ := both e
  exact ⟨fun p => word_lt _ (Host.reduce_andi_all _ _ _ _ _ er p), fun j => pos (Host.reduce_andi_all _ _ _ _ _ en j),
    fun j => pos (Host.reduce_andi_all _ _ _ _ _ e0 j), fun j => pos (Host.reduce_andi_all _ _ _ _ _ e1 j)⟩

theorem rows {m : (ℓ : Loc nD τ sig) → Buf (Elt Ideal) ℓ} (h : Cert.Pre_KernelIdeal_rows_and_variances m) : RowsOK m := fun d => (parts (h d)).1

/-- The frames again, under this precondition. -/
theorem frame_ideal : Cert.quiescent_KernelIdeal_pre_rows_and_variances := fun m ρ h => frame_any m ρ (rows h)
theorem frame_reference : Cert.quiescent_ReferenceIdeal_pre_rows_and_variances := fun m ρ _ => Frames.frame_reference m ρ trivial

end Cert.Proof.Positive

end
-- ==== Proof.Operands.lean ====
/-
  The kernel's operands: what the host's operations between the call and the kernel leave in each of the kernel's arrays.
-/
module

public import proofs.«01_k».proof.Proof.Values

@[expose] public section

noncomputable section

namespace Cert.Proof.Operands

open Cert.KernelIdeal Cert.KernelIdeal.Gen Cert.Proof.Setup Cert.Proof.Host Cert.Proof.Main
open Idealize.ShloMosaic Idealize.ShloMosaic.ValueIdx
open Idealize.ShloMosaic.TcCoe Idealize.ShloMosaic.Tactic
open Idealize.ShloMosaic.StableHlo (seq after held tcRefs launchContents after_of_writes_sub)

variable {F : FTy → Type} [FloatOps F]

variable (m : (ℓ : Loc nD τ sig) → Buf (Elt F) ℓ) (d : Dev nD)

/-- The call and the operations before it leave an argument as it was. -/
theorem valC_arg (b : Ref sig .tc) (h8 : b ≠ main_v8) (hA : b ∉ wroteA) : valC m d (Proc.devRef .tc b) = m ((d.tc : Thread nD τ).loc b) := by
  unfold valC
  rw [Function.update_of_ne (StableHlo.devRef_ne_of_ne h8)]
  exact after_of_writes_sub opsA _ opsA_writes hA

/-- A vector made a row, read at its column. -/
theorem as_row {n : ℕ} {α : Type} (v : (⟨1, ![n]⟩ : Shape).Idx → α) (h) : (fun k : Fin n => shapeCast ⟨2, ![1, n]⟩ v h (ix2 (0 : Fin 1) k)) = fun k => v (ix1 k) :=
  funext fun k => shapeCast_a_1a_apply v h 0 k

/-- The numeric columns' statistics and scales. -/
theorem rows13 (W : Valuation τ sig (Elt F)) :
    after opsB W main_v10 = shapeCast S1x13 (W main_arg3) shapeCasts_S13_S1x13
      ∧ after opsB W main_v11 = shapeCast S1x13 (W main_arg4) shapeCasts_S13_S1x13
      ∧ after opsB W main_v12 = shapeCast S1x13 (W main_arg5) shapeCasts_S13_S1x13
      ∧ after opsB W main_v13 = shapeCast S1x13 (W main_arg6) shapeCasts_S13_S1x13 := by
  unfold opsB
  refine ⟨?_, ?_, ?_, ?_⟩ <;> after_results <;> rfl

/-- The first layer's. -/
theorem rows256 (W : Valuation τ sig (Elt F)) :
    after opsB W main_v18 = shapeCast S1x256 (W main_arg8) shapeCasts_S256_S1x256
      ∧ after opsB W main_v19 = shapeCast S1x256 (W main_arg9) shapeCasts_S256_S1x256
      ∧ after opsB W main_v20 = shapeCast S1x256 (W main_arg10) shapeCasts_S256_S1x256
      ∧ after opsB W main_v21 = shapeCast S1x256 (W main_arg11) shapeCasts_S256_S1x256
      ∧ after opsB W main_v22 = shapeCast S1x256 (W main_arg12) shapeCasts_S256_S1x256 := by
  unfold opsB
  refine ⟨?_, ?_, ?_, ?_, ?_⟩ <;> after_results <;> rfl

/-- The second layer's. -/
theorem rows128 (W : Valuation τ sig (Elt F)) :
    after opsB W main_v24 = shapeCast S1x128 (W main_arg14) shapeCasts_S128_S1x128
      ∧ after opsB W main_v25 = shapeCast S1x128 (W main_arg15) shapeCasts_S128_S1x128
      ∧ after opsB W main_v26 = shapeCast S1x128 (W main_arg16) shapeCasts_S128_S1x128
      ∧ after opsB W main_v27 = shapeCast S1x128 (W main_arg17) shapeCasts_S128_S1x128
      ∧ after opsB W main_v28 = shapeCast S1x128 (W main_arg18) shapeCasts_S128_S1x128 := by
  unfold opsB
  refine ⟨?_, ?_, ?_, ?_, ?_⟩ <;> after_results <;> rfl

/-- The weights, the gathered rows and the last bias. -/
theorem matrices (W : Valuation τ sig (Elt F)) :
    after opsB W main_v15 = transpose S416x256 [1, 0] (extractStridedSlice S256x416 ![0, 0] (W main_arg7) slices_S256x429_S256x416_0_0) transposes_S256x416_S416x256_1_0
      ∧ after opsB W main_v17 = transpose S13x256 [1, 0] (extractStridedSlice S256x13 ![0, 416] (W main_arg7) slices_S256x429_S256x13_0_416) transposes_S256x13_S13x256_1_0
      ∧ after opsB W main_v23 = transpose S256x128 [1, 0] (W main_arg13) transposes_S128x256_S256x128_1_0
      ∧ after opsB W main_v29 = transpose S128x1 [1, 0] (W main_arg19) transposes_S1x128_S128x1_1_0
      ∧ after opsB W main_v30 = shapeCast S1x1 (W main_arg20) shapeCasts_S1_S1x1
      ∧ after opsB W main_v9 = shapeCast S4096x416 (W main_v8) shapeCasts_S106496x16_S4096x416 := by
  unfold opsB
  refine ⟨?_, ?_, ?_, ?_, ?_, ?_⟩ <;> after_results <;> rfl

/-- The categorical columns of the first weight, transposed. -/
theorem left_weight {α : Type} (w : S256x429.Idx → α) (j : Fin 416) (k : Fin 256) :
    transpose S416x256 [1, 0] (extractStridedSlice S256x416 ![0, 0] w slices_S256x429_S256x416_0_0) transposes_S256x416_S416x256_1_0 (ix2 j k)
      = w (ix2 k (⟨j.val, by omega⟩ : Fin 429)) :=
  (transpose_ix2_apply _ _ j k).trans (slice2_axis1_apply 0 w _ k j _ (Nat.zero_add _).symm)

/-- The numeric columns of it. -/
theorem right_weight {α : Type} (w : S256x429.Idx → α) (j : Fin 13) (k : Fin 256) :
    transpose S13x256 [1, 0] (extractStridedSlice S256x13 ![0, 416] w slices_S256x429_S256x13_0_416) transposes_S256x13_S13x256_1_0 (ix2 j k)
      = w (ix2 k (⟨416 + j.val, by omega⟩ : Fin 429)) :=
  (transpose_ix2_apply _ _ j k).trans (slice2_axis1_apply 416 w _ k j _ rfl)

end Cert.Proof.Operands

end
-- ==== Proof.Blocks.lean ====
/-
  The kernel's blocks: where a staging buffer's elements sit in its array, and the result's array row by row.
-/
module

public import proofs.«01_k».proof.Proof.Region
public import Idealize.ShloMosaic.Lib.Pipeline.Value
public import Idealize.ShloMosaic.Lib.ValueLayout

@[expose] public section

noncomputable section

namespace Cert.Proof.Blocks

open Cert.KernelIdeal Cert.KernelIdeal.Gen Cert.Proof.Setup Cert.Proof.Mlp Cert.Proof.Region
open Idealize.ShloMosaic Idealize.ShloMosaic.ValueIdx
open Idealize.ShloMosaic.TcCoe
open Idealize.ShloMosaic.Pipeline (Dat Cfg Window)

variable {F : FTy → Type} [FloatOps F] [∀ e, Nonempty (Elt F e)]

variable (V : Vals F) (c : Dev nD) (t : Fin cfg1.N)

/-- The batch row of a block's row. -/
def batchRow (r : Fin 512) : Fin 4096 := ⟨t.val * 512 + r.val, by have := t.isLt; have : cfg1.N = 8 := N_1; omega⟩

/-- On an axis where the block index is zero, an element keeps its coordinate. -/
theorem keep (w : Window sig grid1) (a : Fin w.shape.rank) (h : w.index t a = 0) (y : (w.xblock (grid1.coords t)).Idx) : ((w.rect t).emb y a : Nat) = y a :=
  Window.rect_emb_val_of_index_zero w t a h y

/-- The grid's one coordinate is the point's number. -/
theorem coord : (BitVec.ofNat 32 ((grid1.coords t) 0).val).toNat = t.val := by
  have h : ∀ t : Fin grid1.N, (BitVec.ofNat 32 ((grid1.coords t) 0).val).toNat = t.val := by decide
  exact h t

theorem block_xc (r : Fin 512) (j : Fin 416) : inB V c 0 t (ix2 r j) = (V c main_v9 : S4096x416.Idx → Elt F .f32) (ix2 (batchRow t r) j) := by
  refine congrArg (V c main_v9) (funext fun a => Fin.ext ?_)
  match a with
  | ⟨0, _⟩ => exact (Window.rect_emb_val win1_0 t _ 0).trans (congrArg (· * 512 + r.val) (coord t))
  | ⟨1, _⟩ => exact keep t win1_0 1 rfl _

theorem block_xn (r : Fin 512) (j : Fin 13) : inB V c 1 t (ix2 r j) = (V c main_arg1 : S4096x13.Idx → Elt F .f32) (ix2 (batchRow t r) j) := by
  refine congrArg (V c main_arg1) (funext fun a => Fin.ext ?_)
  match a with
  | ⟨0, _⟩ => exact (Window.rect_emb_val win1_1 t _ 0).trans (congrArg (· * 512 + r.val) (coord t))
  | ⟨1, _⟩ => exact keep t win1_1 1 rfl _

/-- A block that is its whole array: no axis is moved. -/
theorem whole (w : Window sig grid1) (h : ∀ a, w.index t a = 0) (y : (w.xblock (grid1.coords t)).Idx) : ∀ a, ((w.rect t).emb y a : Nat) = y a :=
  fun a => keep t w a (h a) y
/-- Both axes at block zero. -/
theorem both {f : Fin 2 → Nat} (h0 : f 0 = 0) (h1 : f 1 = 0) : ∀ a, f a = 0 := fun a => match a with | ⟨0, _⟩ => h0 | ⟨1, _⟩ => h1

theorem block_2 : inB V c 2 t = V c main_v10 := funext fun x => congrArg (V c main_v10) (funext fun a => Fin.ext (whole t win1_2 (both rfl rfl) x a))
theorem block_3 : inB V c 3 t = V c main_v11 := funext fun x => congrArg (V c main_v11) (funext fun a => Fin.ext (whole t win1_3 (both rfl rfl) x a))
theorem block_4 : inB V c 4 t = V c main_v12 := funext fun x => congrArg (V c main_v12) (funext fun a => Fin.ext (whole t win1_4 (both rfl rfl) x a))
theorem block_5 : inB V c 5 t = V c main_v13 := funext fun x => congrArg (V c main_v13) (funext fun a => Fin.ext (whole t win1_5 (both rfl rfl) x a))
theorem block_6 : inB V c 6 t = V c main_v15 := funext fun x => congrArg (V c main_v15) (funext fun a => Fin.ext (whole t win1_6 (both rfl rfl) x a))
theorem block_7 : inB V c 7 t = V c main_v17 := funext fun x => congrArg (V c main_v17) (funext fun a => Fin.ext (whole t win1_7 (both rfl rfl) x a))
theorem block_8 : inB V c 8 t = V c main_v18 := funext fun x => congrArg (V c main_v18) (funext fun a => Fin.ext (whole t win1_8 (both rfl rfl) x a))
theorem block_9 : inB V c 9 t = V c main_v19 := funext fun x => congrArg (V c main_v19) (funext fun a => Fin.ext (whole t win1_9 (both rfl rfl) x a))
theorem block_10 : inB V c 10 t = V c main_v20 := funext fun x => congrArg (V c main_v20) (funext fun a => Fin.ext (whole t win1_10 (both rfl rfl) x a))
theorem block_11 : inB V c 11 t = V c main_v21 := funext fun x => congrArg (V c main_v21) (funext fun a => Fin.ext (whole t win1_11 (both rfl rfl) x a))
theorem block_12 : inB V c 12 t = V c main_v22 := funext fun x => congrArg (V c main_v22) (funext fun a => Fin.ext (whole t win1_12 (both rfl rfl) x a))
theorem block_13 : inB V c 13 t = V c main_v23 := funext fun x => congrArg (V c main_v23) (funext fun a => Fin.ext (whole t win1_13 (both rfl rfl) x a))
theorem block_14 : inB V c 14 t = V c main_v24 := funext fun x => congrArg (V c main_v24) (funext fun a => Fin.ext (whole t win1_14 (both rfl rfl) x a))
theorem block_15 : inB V c 15 t = V c main_v25 := funext fun x => congrArg (V c main_v25) (funext fun a => Fin.ext (whole t win1_15 (both rfl rfl) x a))
theorem block_16 : inB V c 16 t = V c main_v26 := funext fun x => congrArg (V c main_v26) (funext fun a => Fin.ext (whole t win1_16 (both rfl rfl) x a))
theorem block_17 : inB V c 17 t = V c main_v27 := funext fun x => congrArg (V c main_v27) (funext fun a => Fin.ext (whole t win1_17 (both rfl rfl) x a))
theorem block_18 : inB V c 18 t = V c main_v28 := funext fun x => congrArg (V c main_v28) (funext fun a => Fin.ext (whole t win1_18 (both rfl rfl) x a))
theorem block_19 : inB V c 19 t = V c main_v29 := funext fun x => congrArg (V c main_v29) (funext fun a => Fin.ext (whole t win1_19 (both rfl rfl) x a))
theorem block_20 : inB V c 20 t = V c main_v30 := funext fun x => congrArg (V c main_v30) (funext fun a => Fin.ext (whole t win1_20 (both rfl rfl) x a))

/-- The result's array, row by row: row `r` of the block point `t` wrote. -/
theorem left_row (r : Fin 512) : (left V c main_v31 : S4096x1.Idx → Elt F .f32) (ix2 (batchRow t r) (0 : Fin 1)) = outB V c t (ix2 r (0 : Fin 1)) := by
  have hdisj : ∀ t t' : Fin cfg1.N, (cfg1.win 21).flush t = true → (cfg1.win 21).flush t' = true → t ≠ t' →
      Disjoint ((cfg1.win 21).blk t).view.set ((cfg1.win 21).blk t').view.set := by
    intro t t' _ _ hne
    refine Window.disjoint_blk win1_21 fun e => hne (Fin.ext ?_)
    have e0 : (BitVec.ofNat 32 ((grid1.coords t) 0).val).toNat = (BitVec.ofNat 32 ((grid1.coords t') 0).val).toNat := congrFun e 0
    rwa [coord, coord] at e0
  have h := Dat.arrAt_emb_eq_flushed (dat V c) 21 hdisj t (flush1_21 t) (ix2 r (0 : Fin 1))
  rw [left_out]
  refine Eq.trans ?_ h
  refine congrArg ((dat V c).arrAt 21 cfg1.N) (funext fun a => Fin.ext ?_)
  match a with
  | ⟨0, _⟩ => exact ((Window.rect_emb_val win1_21 t (ix2 r (0 : Fin 1)) 0).trans (congrArg (· * 512 + r.val) (coord t))).symm
  | ⟨1, _⟩ => exact (keep t win1_21 1 rfl (ix2 r (0 : Fin 1))).symm

end Cert.Proof.Blocks

end
-- ==== Proof.RowKernel.lean ====
/-
  What the kernel's body stores, read at a row: the three layers of that row.
-/
module

public import proofs.«01_k».proof.Proof.Spec
public import proofs.«01_k».proof.Proof.Mlp
public import Idealize.ShloMosaic.Lib.MatmulPlain

@[expose] public section

noncomputable section

namespace Cert.Proof.RowKernel

open Cert.KernelIdeal Cert.KernelIdeal.Gen Cert.Proof.Spec
open Idealize.ShloMosaic Idealize.ShloMosaic.ValueIdx
open scoped BigOperators

theorem rsqrt_apply {s : Shape} {φ : FTy} (a : FVec Ideal s φ) (i : s.Idx) : rsqrt a i = Ideal.rsqrt (a i) := rfl
theorem splat_apply {s : Shape} (b : BitVec 32) (i : s.Idx) :
    broadcast s (Scalar.ofBits (F := Ideal) .f32 b) i = Ideal.ofBits .f32 b := rfl

/-- A product into zeros, at an element. -/
theorem dot_apply {M K N : ℕ} (lhs : FVec Ideal ⟨2, ![M, K]⟩ .f32) (rhs : FVec Ideal ⟨2, ![K, N]⟩ .f32) (r : Fin M) (c : Fin N) :
    matmul (DotDims.plain M K N) none lhs rhs (constant ⟨2, ![M, N]⟩ .f32 0x00000000#32) (ix2 r c) = ∑ k : Fin K, lhs (ix2 r k) * rhs (ix2 k c) := by
  show FloatOps.matmul (DotDims.plain M K N) none lhs rhs _ (ix2 r c) = _
  rw [Ideal.matmul_plain_apply]
  show Ideal.ofBits .f32 0x00000000#32 + _ = _
  rw [Ideal.ofBits_zero_f32, zero_add]

theorem dot0 (l : FVec Ideal S512x416 .f32) (w : FVec Ideal S416x256 .f32) (r : Fin 512) (k : Fin 256) :
    matmul dot_S512x416_S416x256_S512x256_1_0_0_1_n_n none l w (constant S512x256 .f32 0x00000000#32) (ix2 r k) = ∑ j : Fin 416, l (ix2 r j) * w (ix2 j k) := dot_apply l w r k
theorem dotn (l : FVec Ideal S512x13 .f32) (w : FVec Ideal S13x256 .f32) (r : Fin 512) (k : Fin 256) :
    matmul dot_S512x13_S13x256_S512x256_1_0_0_1_n_n none l w (constant S512x256 .f32 0x00000000#32) (ix2 r k) = ∑ j : Fin 13, l (ix2 r j) * w (ix2 j k) := dot_apply l w r k
theorem dot1 (l : FVec Ideal S512x256 .f32) (w : FVec Ideal S256x128 .f32) (r : Fin 512) (k : Fin 128) :
    matmul dot_S512x256_S256x128_S512x128_1_0_0_1_n_n none l w (constant S512x128 .f32 0x00000000#32) (ix2 r k) = ∑ j : Fin 256, l (ix2 r j) * w (ix2 j k) := dot_apply l w r k
theorem dot2 (l : FVec Ideal S512x128 .f32) (w : FVec Ideal S128x1 .f32) (r : Fin 512) (k : Fin 1) :
    matmul dot_S512x128_S128x1_S512x1_1_0_0_1_n_n none l w (constant S512x1 .f32 0x00000000#32) (ix2 r k) = ∑ j : Fin 128, l (ix2 r j) * w (ix2 j k) := dot_apply l w r k

theorem row13 (v : S1x13.Idx → EReal) (h) (r : Fin 512) (c : Fin 13) : broadcastTo S512x13 v h (ix2 r c) = v (ix2 (0 : Fin 1) c) := broadcastTo_1b_ab_apply v h r c
theorem row256 (v : S1x256.Idx → EReal) (h) (r : Fin 512) (c : Fin 256) : broadcastTo S512x256 v h (ix2 r c) = v (ix2 (0 : Fin 1) c) := broadcastTo_1b_ab_apply v h r c
theorem row128 (v : S1x128.Idx → EReal) (h) (r : Fin 512) (c : Fin 128) : broadcastTo S512x128 v h (ix2 r c) = v (ix2 (0 : Fin 1) c) := broadcastTo_1b_ab_apply v h r c
theorem row1 (v : S1x1.Idx → EReal) (h) (r : Fin 512) (c : Fin 1) : broadcastTo S512x1 v h (ix2 r c) = v (ix2 (0 : Fin 1) c) := broadcastTo_1b_ab_apply v h r c

theorem pay2_apply (X0 : S512x416.Idx → EReal) (X1 : S512x13.Idx → EReal) (X2 X3 X4 X5 : S1x13.Idx → EReal) (X6 : S416x256.Idx → EReal)
    (X7 : S13x256.Idx → EReal) (X8 : S1x256.Idx → EReal) (r : Fin 512) (k : Fin 256) :
    k1_pay2 (F := Ideal) X1 X4 X5 X2 X3 X0 X6 X7 X8 (ix2 r k)
      = hid0 (fun j => X0 (ix2 r j))
          (fun j => norm (X1 (ix2 r j)) (X4 (ix2 (0 : Fin 1) j)) (X5 (ix2 (0 : Fin 1) j)) (X2 (ix2 (0 : Fin 1) j)) (X3 (ix2 (0 : Fin 1) j)))
          (fun j k => X6 (ix2 j k)) (fun j k => X7 (ix2 j k)) (fun k => X8 (ix2 (0 : Fin 1) k)) k := by
  unfold k1_pay2
  simp only [maximumf_apply, addf_apply, dot0, dotn, row256, row13, mulf_apply, subf_apply, shapeCast_self, rsqrt_apply, splat_apply, Ideal.ofBits_zero_f32]
  rfl

theorem pay3_apply (H : S512x256.Idx → EReal) (X9 X10 X11 X12 : S1x256.Idx → EReal) (X13 : S256x128.Idx → EReal) (X14 X17 X18 : S1x128.Idx → EReal)
    (r : Fin 512) (k : Fin 128) :
    k1_pay3 (F := Ideal) H X11 X12 X9 X10 X13 X14 X17 X18 (ix2 r k)
      = (hid1 (fun j => norm (H (ix2 r j)) (X11 (ix2 (0 : Fin 1) j)) (X12 (ix2 (0 : Fin 1) j)) (X9 (ix2 (0 : Fin 1) j)) (X10 (ix2 (0 : Fin 1) j)))
          (fun j k => X13 (ix2 j k)) (fun k => X14 (ix2 (0 : Fin 1) k)) k - X17 (ix2 (0 : Fin 1) k)) * Ideal.rsqrt (X18 (ix2 (0 : Fin 1) k) + eps) := by
  unfold k1_pay3
  simp only [maximumf_apply, addf_apply, dot1, row256, row128, mulf_apply, subf_apply, shapeCast_self, rsqrt_apply, splat_apply, Ideal.ofBits_zero_f32]
  rfl

theorem pay1_apply (H : S512x128.Idx → EReal) (X15 X16 : S1x128.Idx → EReal) (X19 : S128x1.Idx → EReal) (X20 : S1x1.Idx → EReal) (r : Fin 512) :
    k1_pay1 (F := Ideal) H X15 X16 X19 X20 (ix2 r (0 : Fin 1))
      = last (fun j => H (ix2 r j) * X15 (ix2 (0 : Fin 1) j) + X16 (ix2 (0 : Fin 1) j)) (fun j => X19 (ix2 j (0 : Fin 1))) (X20 (ix2 (0 : Fin 1) (0 : Fin 1))) := by
  unfold k1_pay1
  simp only [addf_apply, dot2, row128, row1, mulf_apply, shapeCast_self]
  rfl

/-- What the body stores at a row is that row's answer. -/
theorem mlpOut_apply (X0 : S512x416.Idx → EReal) (X1 : S512x13.Idx → EReal) (X2 X3 X4 X5 : S1x13.Idx → EReal) (X6 : S416x256.Idx → EReal)
    (X7 : S13x256.Idx → EReal) (X8 X9 X10 X11 X12 : S1x256.Idx → EReal) (X13 : S256x128.Idx → EReal) (X14 X15 X16 X17 X18 : S1x128.Idx → EReal)
    (X19 : S128x1.Idx → EReal) (X20 : S1x1.Idx → EReal) (r : Fin 512) :
    Mlp.mlpOut (F := Ideal) X0 X1 X2 X3 X4 X5 X6 X7 X8 X9 X10 X11 X12 X13 X14 X15 X16 X17 X18 X19 X20 (ix2 r (0 : Fin 1))
      = rowOut (fun j => X0 (ix2 r j))
          (fun j => norm (X1 (ix2 r j)) (X4 (ix2 (0 : Fin 1) j)) (X5 (ix2 (0 : Fin 1) j)) (X2 (ix2 (0 : Fin 1) j)) (X3 (ix2 (0 : Fin 1) j)))
          (fun j k => X6 (ix2 j k)) (fun j k => X7 (ix2 j k)) (fun k => X8 (ix2 (0 : Fin 1) k))
          (fun k => X11 (ix2 (0 : Fin 1) k)) (fun k => X12 (ix2 (0 : Fin 1) k)) (fun k => X9 (ix2 (0 : Fin 1) k)) (fun k => X10 (ix2 (0 : Fin 1) k))
          (fun j k => X13 (ix2 j k)) (fun k => X14 (ix2 (0 : Fin 1) k))
          (fun k => X17 (ix2 (0 : Fin 1) k)) (fun k => X18 (ix2 (0 : Fin 1) k)) (fun k => X15 (ix2 (0 : Fin 1) k)) (fun k => X16 (ix2 (0 : Fin 1) k))
          (fun j => X19 (ix2 j (0 : Fin 1))) (X20 (ix2 (0 : Fin 1) (0 : Fin 1))) := by
  unfold Mlp.mlpOut
  rw [pay1_apply]
  simp only [pay3_apply, pay2_apply]
  rfl

end Cert.Proof.RowKernel

end
-- ==== Proof.RowReference.lean ====
/-
  The reference's result read at a row: the three layers of that row, where every normalisation divides by the root of a
  positive number.
-/
module

public import proofs.«01_k».proof.Proof.Spec
public import proofs.«01_k».proof.Proof.Gen.ReferenceIdeal
public import proofs.«01_k».proof.Proof.Gen.ReferenceIdeal.Run
public import Idealize.ShloMosaic.Lib.StackMember

@[expose] public section

noncomputable section

namespace Cert.Proof.RowReference

open Cert.ReferenceIdeal Cert.ReferenceIdeal.Gen Cert.Proof.Spec
open Idealize.ShloMosaic Idealize.ShloMosaic.ValueIdx Idealize.ShloMosaic.StackMember
open Idealize.ShloMosaic.TcCoe
open scoped BigOperators

theorem sqrt_apply {s : Shape} {φ : FTy} (a : FVec Ideal s φ) (i : s.Idx) : Host.sqrt a i = Ideal.sqrt (a i) := rfl

/-- The first product, over the concatenation, is the sum of its categorical and its numeric part. -/
theorem dot0 (a : S4096x416.Idx → EReal) (n : S4096x13.Idx → EReal) (h) (w : FVec Ideal S256x429 .f32) (hw) (r : Fin 4096) (k : Fin 256) :
    Host.dotGeneral (φ₁ := .f32) dot_S4096x429_S429x256_S4096x256_1_0_0_1_n_n none (concatenate S4096x429 1 [⟨S4096x416, a⟩, ⟨S4096x13, n⟩] h) (transpose S429x256 [1, 0] w hw) (ix2 r k)
      = (∑ j : Fin 416, a (ix2 r j) * w (ix2 k (⟨j.val, by omega⟩ : Fin 429))) + ∑ j : Fin 13, n (ix2 r j) * w (ix2 k (⟨416 + j.val, by omega⟩ : Fin 429)) := by
  refine (dotGeneral_plain_apply (m := 4096) (n := 256) (k := 429) none _ _ r k).trans ?_
  refine (Fin.sum_univ_add (a := 416) (b := 13) _).trans ?_
  refine congrArg₂ (· + ·) (Finset.sum_congr rfl fun j _ => ?_) (Finset.sum_congr rfl fun j _ => ?_)
  · refine congrArg₂ (· * ·) (concatenate_pair_apply_left 1 a n h _ rfl (ix2 r j) fun b => ?_) (transpose_ix2_apply w hw _ k)
    match b with
    | ⟨0, _⟩ => rfl
    | ⟨1, _⟩ => rfl
  · refine congrArg₂ (· * ·) (concatenate_pair_apply_right 1 a n h _ rfl rfl (ix2 r j) (fun b hb => ?_) ?_) (transpose_ix2_apply w hw _ k)
    · match b, hb with
      | ⟨0, _⟩, _ => rfl
      | ⟨1, _⟩, hb => exact absurd rfl hb
    · exact Nat.add_comm _ _

theorem dot1 (l : FVec Ideal S4096x256 .f32) (w : FVec Ideal S128x256 .f32) (hw) (r : Fin 4096) (k : Fin 128) :
    Host.dotGeneral dot_S4096x256_S256x128_S4096x128_1_0_0_1_n_n none l (transpose S256x128 [1, 0] w hw) (ix2 r k) = ∑ j : Fin 256, l (ix2 r j) * w (ix2 k j) :=
  (dotGeneral_plain_apply (m := 4096) (n := 128) (k := 256) none l _ r k).trans
    (Finset.sum_congr rfl fun j _ => congrArg (l (ix2 r j) * ·) (transpose_ix2_apply w hw j k))
theorem dot2 (l : FVec Ideal S4096x128 .f32) (w : FVec Ideal S1x128 .f32) (hw) (r : Fin 4096) (k : Fin 1) :
    Host.dotGeneral dot_S4096x128_S128x1_S4096x1_1_0_0_1_n_n none l (transpose S128x1 [1, 0] w hw) (ix2 r k) = ∑ j : Fin 128, l (ix2 r j) * w (ix2 k j) :=
  (dotGeneral_plain_apply (m := 4096) (n := 1) (k := 128) none l _ r k).trans
    (Finset.sum_congr rfl fun j _ => congrArg (l (ix2 r j) * ·) (transpose_ix2_apply w hw j k))

theorem row13 {α : Type} (v : S13.Idx → α) (h1 h2) (r : Fin 4096) (c : Fin 13) :
    broadcastInDim S4096x13 ![0, 1] h2 (broadcastInDim S1x13 ![1] h1 v) (ix2 r c) = v (ix1 c) := bcast_row v h1 h2 r c
theorem row256 {α : Type} (v : S256.Idx → α) (h1 h2) (r : Fin 4096) (c : Fin 256) :
    broadcastInDim S4096x256 ![0, 1] h2 (broadcastInDim S1x256 ![1] h1 v) (ix2 r c) = v (ix1 c) := bcast_row v h1 h2 r c
theorem row128 {α : Type} (v : S128.Idx → α) (h1 h2) (r : Fin 4096) (c : Fin 128) :
    broadcastInDim S4096x128 ![0, 1] h2 (broadcastInDim S1x128 ![1] h1 v) (ix2 r c) = v (ix1 c) := bcast_row v h1 h2 r c
theorem row1 {α : Type} (v : S1.Idx → α) (h1 h2) (r : Fin 4096) (c : Fin 1) :
    broadcastInDim S4096x1 ![0, 1] h2 (broadcastInDim S1x1 ![1] h1 v) (ix2 r c) = v (ix1 c) := bcast_row v h1 h2 r c
theorem scalar_apply {T : Shape} (h) (b : BitVec 32) (j : T.Idx) :
    broadcastInDim T ![] h (constant (F := Ideal) S_ .f32 b) j = Ideal.ofBits .f32 b := broadcastInDim_scalar_apply h _ j

/-- The row numbers the reference gathers at: a field's number and its word, each moved up by the extent where negative. -/
def places (x : S4096x26.Idx → BitVec 32) : S4096x26x2.Idx → BitVec 32 :=
  concatenate S4096x26x2 2 [⟨S4096x26x1, (broadcastInDim S4096x26x1 ![0, 1] bcast_S4096x26_S4096x26x1_0_1 (broadcastInDim S4096x26 ![0, 1] bcast_S1x26_S4096x26_0_1 (select (cmpi .slt (broadcastInDim S1x26 ![1] bcast_S26_S1x26_1 (iotaInDim S26 32 0)) (broadcastInDim S1x26 ![] bcast_S_S1x26 (constantI S_ 32 0#32))) (addi (broadcastInDim S1x26 ![1] bcast_S26_S1x26_1 (iotaInDim S26 32 0)) (broadcastInDim S1x26 ![] bcast_S_S1x26 (constantI S_ 32 26#32))) (broadcastInDim S1x26 ![1] bcast_S26_S1x26_1 (iotaInDim S26 32 0)))))⟩, ⟨S4096x26x1, (broadcastInDim S4096x26x1 ![0, 1] bcast_S4096x26_S4096x26x1_0_1 (select (cmpi .slt x (broadcastInDim S4096x26 ![] bcast_S_S4096x26 (constantI S_ 32 0#32))) (addi x (broadcastInDim S4096x26 ![] bcast_S_S4096x26 (constantI S_ 32 1000000#32))) x))⟩] concatenates_S4096x26x1_S4096x26x1_S4096x26x2_d2

/-- The reference's gathered rows, one batch row a line. -/
def entries (tab : S26x1000000x16.Idx → EReal) (x : S4096x26.Idx → BitVec 32) : S4096x416.Idx → EReal :=
  shapeCast S4096x416 (Host.gather gather_S26x1000000x16_S4096x26x2_S4096x26x16_2_01_n_n_01_2_1116 tab (places x)) shapeCasts_S4096x26x16_S4096x416

/-- The reference's normalisation of 13 columns. -/
def bnNum (h : FVec Ideal S4096x13 .f32) (g b μ v : FVec Ideal S13 .f32) : FVec Ideal S4096x13 .f32 :=
  addf (mulf (Host.divf (subf h (broadcastInDim S4096x13 ![0, 1] bcast_S1x13_S4096x13_0_1 (broadcastInDim S1x13 ![1] bcast_S13_S1x13_1 μ)))
      (broadcastInDim S4096x13 ![0, 1] bcast_S1x13_S4096x13_0_1 (broadcastInDim S1x13 ![1] bcast_S13_S1x13_1
        (Host.sqrt (addf v (broadcastInDim S13 ![] bcast_S_S13 (constant S_ .f32 0x3727C5AC#32)))))))
      (broadcastInDim S4096x13 ![0, 1] bcast_S1x13_S4096x13_0_1 (broadcastInDim S1x13 ![1] bcast_S13_S1x13_1 g)))
    (broadcastInDim S4096x13 ![0, 1] bcast_S1x13_S4096x13_0_1 (broadcastInDim S1x13 ![1] bcast_S13_S1x13_1 b))

theorem bnNum_apply (h : FVec Ideal S4096x13 .f32) (g b μ v : FVec Ideal S13 .f32) (hv : ∀ j : Fin 13, 0 < v (ix1 j) + eps) (r : Fin 4096) (j : Fin 13) :
    bnNum h g b μ v (ix2 r j) = norm (h (ix2 r j)) (μ (ix1 j)) (v (ix1 j)) (g (ix1 j)) (b (ix1 j)) := by
  rw [← norm_eq _ _ _ _ _ (hv j)]
  unfold bnNum
  rw [addf_apply, mulf_apply, hostDivf_apply, subf_apply, row13, row13, row13, row13, sqrt_apply, addf_apply, scalar_apply]
  rfl

/-- The reference's normalisation of 256 columns. -/
def bnOne (h : FVec Ideal S4096x256 .f32) (g b μ v : FVec Ideal S256 .f32) : FVec Ideal S4096x256 .f32 :=
  addf (mulf (Host.divf (subf h (broadcastInDim S4096x256 ![0, 1] bcast_S1x256_S4096x256_0_1 (broadcastInDim S1x256 ![1] bcast_S256_S1x256_1 μ)))
      (broadcastInDim S4096x256 ![0, 1] bcast_S1x256_S4096x256_0_1 (broadcastInDim S1x256 ![1] bcast_S256_S1x256_1
        (Host.sqrt (addf v (broadcastInDim S256 ![] bcast_S_S256 (constant S_ .f32 0x3727C5AC#32)))))))
      (broadcastInDim S4096x256 ![0, 1] bcast_S1x256_S4096x256_0_1 (broadcastInDim S1x256 ![1] bcast_S256_S1x256_1 g)))
    (broadcastInDim S4096x256 ![0, 1] bcast_S1x256_S4096x256_0_1 (broadcastInDim S1x256 ![1] bcast_S256_S1x256_1 b))

theorem bnOne_apply (h : FVec Ideal S4096x256 .f32) (g b μ v : FVec Ideal S256 .f32) (hv : ∀ j : Fin 256, 0 < v (ix1 j) + eps) (r : Fin 4096) (j : Fin 256) :
    bnOne h g b μ v (ix2 r j) = norm (h (ix2 r j)) (μ (ix1 j)) (v (ix1 j)) (g (ix1 j)) (b (ix1 j)) := by
  rw [← norm_eq _ _ _ _ _ (hv j)]
  unfold bnOne
  rw [addf_apply, mulf_apply, hostDivf_apply, subf_apply, row256, row256, row256, row256, sqrt_apply, addf_apply, scalar_apply]
  rfl

/-- The reference's normalisation of 128 columns. -/
def bnTwo (h : FVec Ideal S4096x128 .f32) (g b μ v : FVec Ideal S128 .f32) : FVec Ideal S4096x128 .f32 :=
  addf (mulf (Host.divf (subf h (broadcastInDim S4096x128 ![0, 1] bcast_S1x128_S4096x128_0_1 (broadcastInDim S1x128 ![1] bcast_S128_S1x128_1 μ)))
      (broadcastInDim S4096x128 ![0, 1] bcast_S1x128_S4096x128_0_1 (broadcastInDim S1x128 ![1] bcast_S128_S1x128_1
        (Host.sqrt (addf v (broadcastInDim S128 ![] bcast_S_S128 (constant S_ .f32 0x3727C5AC#32)))))))
      (broadcastInDim S4096x128 ![0, 1] bcast_S1x128_S4096x128_0_1 (broadcastInDim S1x128 ![1] bcast_S128_S1x128_1 g)))
    (broadcastInDim S4096x128 ![0, 1] bcast_S1x128_S4096x128_0_1 (broadcastInDim S1x128 ![1] bcast_S128_S1x128_1 b))

theorem bnTwo_apply (h : FVec Ideal S4096x128 .f32) (g b μ v : FVec Ideal S128 .f32) (hv : ∀ j : Fin 128, 0 < v (ix1 j) + eps) (r : Fin 4096) (j : Fin 128) :
    bnTwo h g b μ v (ix2 r j) = norm (h (ix2 r j)) (μ (ix1 j)) (v (ix1 j)) (g (ix1 j)) (b (ix1 j)) := by
  rw [← norm_eq _ _ _ _ _ (hv j)]
  unfold bnTwo
  rw [addf_apply, mulf_apply, hostDivf_apply, subf_apply, row128, row128, row128, row128, sqrt_apply, addf_apply, scalar_apply]
  rfl

/-- The reference's first layer. -/
def layOne (a : FVec Ideal S4096x416 .f32) (n : FVec Ideal S4096x13 .f32) (w : FVec Ideal S256x429 .f32) (b : FVec Ideal S256 .f32) : FVec Ideal S4096x256 .f32 :=
  maximumf (addf (Host.dotGeneral (φ₁ := .f32) dot_S4096x429_S429x256_S4096x256_1_0_0_1_n_n none
      (concatenate S4096x429 1 [⟨S4096x416, a⟩, ⟨S4096x13, n⟩] concatenates_S4096x416_S4096x13_S4096x429_d1) (transpose S429x256 [1, 0] w transposes_S256x429_S429x256_1_0))
      (broadcastInDim S4096x256 ![0, 1] bcast_S1x256_S4096x256_0_1 (broadcastInDim S1x256 ![1] bcast_S256_S1x256_1 b)))
    (broadcastInDim S4096x256 ![] bcast_S_S4096x256 (constant S_ .f32 0x00000000#32))

theorem layOne_apply (a : FVec Ideal S4096x416 .f32) (n : FVec Ideal S4096x13 .f32) (w : FVec Ideal S256x429 .f32) (b : FVec Ideal S256 .f32) (r : Fin 4096) (k : Fin 256) :
    layOne a n w b (ix2 r k) = hid0 (fun j => a (ix2 r j)) (fun j => n (ix2 r j)) (fun j k => w (ix2 k (⟨j.val, by omega⟩ : Fin 429)))
      (fun j k => w (ix2 k (⟨416 + j.val, by omega⟩ : Fin 429))) (fun k => b (ix1 k)) k := by
  unfold layOne
  rw [maximumf_apply, addf_apply, dot0, row256, scalar_apply, Ideal.ofBits_zero_f32]
  rfl

/-- The reference's second layer. -/
def layTwo (h : FVec Ideal S4096x256 .f32) (w : FVec Ideal S128x256 .f32) (b : FVec Ideal S128 .f32) : FVec Ideal S4096x128 .f32 :=
  maximumf (addf (Host.dotGeneral dot_S4096x256_S256x128_S4096x128_1_0_0_1_n_n none h (transpose S256x128 [1, 0] w transposes_S128x256_S256x128_1_0))
      (broadcastInDim S4096x128 ![0, 1] bcast_S1x128_S4096x128_0_1 (broadcastInDim S1x128 ![1] bcast_S128_S1x128_1 b)))
    (broadcastInDim S4096x128 ![] bcast_S_S4096x128 (constant S_ .f32 0x00000000#32))

theorem layTwo_apply (h : FVec Ideal S4096x256 .f32) (w : FVec Ideal S128x256 .f32) (b : FVec Ideal S128 .f32) (r : Fin 4096) (k : Fin 128) :
    layTwo h w b (ix2 r k) = hid1 (fun j => h (ix2 r j)) (fun j k => w (ix2 k j)) (fun k => b (ix1 k)) k := by
  unfold layTwo
  rw [maximumf_apply, addf_apply, dot1, row128, scalar_apply, Ideal.ofBits_zero_f32]
  rfl

/-- The reference's last layer. -/
def layOut (h : FVec Ideal S4096x128 .f32) (w : FVec Ideal S1x128 .f32) (b : FVec Ideal S1 .f32) : FVec Ideal S4096x1 .f32 :=
  addf (Host.dotGeneral dot_S4096x128_S128x1_S4096x1_1_0_0_1_n_n none h (transpose S128x1 [1, 0] w transposes_S1x128_S128x1_1_0))
    (broadcastInDim S4096x1 ![0, 1] bcast_S1x1_S4096x1_0_1 (broadcastInDim S1x1 ![1] bcast_S1_S1x1_1 b))

theorem layOut_apply (h : FVec Ideal S4096x128 .f32) (w : FVec Ideal S1x128 .f32) (b : FVec Ideal S1 .f32) (r : Fin 4096) :
    layOut h w b (ix2 r (0 : Fin 1)) = last (fun j => h (ix2 r j)) (fun j => w (ix2 (0 : Fin 1) j)) (b (ix1 (0 : Fin 1))) := by
  unfold layOut
  rw [addf_apply, dot2, row1]
  rfl

/-- The reference's result as a function of its arguments. -/
def refOut (x : IVec S4096x26 32) (xn : FVec Ideal S4096x13 .f32) (tab : FVec Ideal S26x1000000x16 .f32) (gn bn mn vn : FVec Ideal S13 .f32)
    (w0 : FVec Ideal S256x429 .f32) (b0 g0 be0 m0 v0 : FVec Ideal S256 .f32) (w1 : FVec Ideal S128x256 .f32) (b1 g1 be1 m1 v1 : FVec Ideal S128 .f32)
    (w2 : FVec Ideal S1x128 .f32) (b2 : FVec Ideal S1 .f32) : FVec Ideal S4096x1 .f32 :=
  layOut (bnTwo (layTwo (bnOne (layOne (entries tab x) (bnNum xn gn bn mn vn) w0 b0) g0 be0 m0 v0) w1 b1) g1 be1 m1 v1) w2 b2

theorem refOut_apply (x : IVec S4096x26 32) (xn : FVec Ideal S4096x13 .f32) (tab : FVec Ideal S26x1000000x16 .f32) (gn bn mn vn : FVec Ideal S13 .f32)
    (w0 : FVec Ideal S256x429 .f32) (b0 g0 be0 m0 v0 : FVec Ideal S256 .f32) (w1 : FVec Ideal S128x256 .f32) (b1 g1 be1 m1 v1 : FVec Ideal S128 .f32)
    (w2 : FVec Ideal S1x128 .f32) (b2 : FVec Ideal S1 .f32)
    (hn : ∀ j : Fin 13, 0 < vn (ix1 j) + eps) (h0 : ∀ j : Fin 256, 0 < v0 (ix1 j) + eps) (h1 : ∀ j : Fin 128, 0 < v1 (ix1 j) + eps) (r : Fin 4096) :
    refOut x xn tab gn bn mn vn w0 b0 g0 be0 m0 v0 w1 b1 g1 be1 m1 v1 w2 b2 (ix2 r (0 : Fin 1))
      = rowOut (fun j => entries tab x (ix2 r j))
          (fun j => norm (xn (ix2 r j)) (mn (ix1 j)) (vn (ix1 j)) (gn (ix1 j)) (bn (ix1 j)))
          (fun j k => w0 (ix2 k (⟨j.val, by omega⟩ : Fin 429))) (fun j k => w0 (ix2 k (⟨416 + j.val, by omega⟩ : Fin 429)))
          (fun k => b0 (ix1 k)) (fun k => m0 (ix1 k)) (fun k => v0 (ix1 k)) (fun k => g0 (ix1 k)) (fun k => be0 (ix1 k))
          (fun j k => w1 (ix2 k j)) (fun k => b1 (ix1 k)) (fun k => m1 (ix1 k)) (fun k => v1 (ix1 k)) (fun k => g1 (ix1 k)) (fun k => be1 (ix1 k))
          (fun j => w2 (ix2 (0 : Fin 1) j)) (b2 (ix1 (0 : Fin 1))) := by
  unfold refOut rowOut
  rw [layOut_apply]
  simp only [bnTwo_apply _ _ _ _ _ h1, layTwo_apply, bnOne_apply _ _ _ _ _ h0, layOne_apply, bnNum_apply _ _ _ _ _ hn]

theorem result_eq (m : (ℓ : Loc nD τ sig) → Buf (Elt Ideal) ℓ) (c : Dev nD) :
    Value.res_main_v82 (F := Ideal) m c = refOut (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) (m ((c.tc : Thread nD τ).loc main_arg9)) (m ((c.tc : Thread nD τ).loc main_arg10))
      (m ((c.tc : Thread nD τ).loc main_arg11)) (m ((c.tc : Thread nD τ).loc main_arg12)) (m ((c.tc : Thread nD τ).loc main_arg13)) (m ((c.tc : Thread nD τ).loc main_arg14))
      (m ((c.tc : Thread nD τ).loc main_arg15)) (m ((c.tc : Thread nD τ).loc main_arg16)) (m ((c.tc : Thread nD τ).loc main_arg17)) (m ((c.tc : Thread nD τ).loc main_arg18))
      (m ((c.tc : Thread nD τ).loc main_arg19)) (m ((c.tc : Thread nD τ).loc main_arg20)) := rfl

end Cert.Proof.RowReference

end
-- ==== Proof.Entries.lean ====
/-
  The entries the reference gathers: entry `j` of a batch row is entry `j % 16` of the row that field `j / 16`'s word
  names in the field's table.
-/
module

public import proofs.«01_k».proof.Proof.RowReference
public import Idealize.ShloMosaic.Lib.StableHlo.Predicate

@[expose] public section

noncomputable section

namespace Cert.Proof.Entries

open Cert.ReferenceIdeal Cert.ReferenceIdeal.Gen Cert.Proof.RowReference
open Idealize.ShloMosaic Idealize.ShloMosaic.ValueIdx

/-- The gather at two start indices, read at an element: both are clamped into the table. -/
theorem gather_apply (tab : S26x1000000x16.Idx → EReal) (idx : S4096x26x2.Idx → BitVec 32) (r : Fin 4096) (f : Fin 26) (q : Fin 16) :
    Host.gather gather_S26x1000000x16_S4096x26x2_S4096x26x16_2_01_n_n_01_2_1116 tab idx (ix3 r f q)
      = tab (ix3 (⟨min (idx (ix3 r f (0 : Fin 2))).toInt.toNat 25, by omega⟩ : Fin 26) (⟨min (idx (ix3 r f (1 : Fin 2))).toInt.toNat 999999, by omega⟩ : Fin 1000000) q) := by
  unfold Host.gather
  congr 1
  funext a
  refine Fin.ext ?_
  show gather_S26x1000000x16_S4096x26x2_S4096x26x16_2_01_n_n_01_2_1116.start (ix3 r f q) idx a
      + gather_S26x1000000x16_S4096x26x2_S4096x26x16_2_01_n_n_01_2_1116.batchCoord (ix3 r f q) a
      + gather_S26x1000000x16_S4096x26x2_S4096x26x16_2_01_n_n_01_2_1116.offCoord (ix3 r f q) a = _
  rw [GatherDims.batchCoord_eq_zero _ _ _ List.not_mem_nil]
  have h : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h with rfl | rfl | rfl
  · rw [GatherDims.offCoord_eq_zero _ _ _ (fun h => ((GatherDims.mem_sKept _ _).mp h).1 (by decide))]
    unfold GatherDims.start
    rw [dif_pos (by decide)]
    have hsi : gather_S26x1000000x16_S4096x26x2_S4096x26x16_2_01_n_n_01_2_1116.siIdx (ix3 r f q) ⟨0, by decide⟩ = ix3 r f (0 : Fin 2) := by
      funext b; refine Fin.ext ?_
      match b with
      | ⟨0, _⟩ => rfl
      | ⟨1, _⟩ => rfl
      | ⟨2, _⟩ => rfl
    exact congrArg (fun p => min (idx p).toInt.toNat 25) hsi
  · rw [GatherDims.offCoord_eq_zero _ _ _ (fun h => ((GatherDims.mem_sKept _ _).mp h).1 (by decide))]
    unfold GatherDims.start
    rw [dif_pos (by decide)]
    have hsi : gather_S26x1000000x16_S4096x26x2_S4096x26x16_2_01_n_n_01_2_1116.siIdx (ix3 r f q) ⟨1, by decide⟩ = ix3 r f (1 : Fin 2) := by
      funext b; refine Fin.ext ?_
      match b with
      | ⟨0, _⟩ => rfl
      | ⟨1, _⟩ => rfl
      | ⟨2, _⟩ => rfl
    exact congrArg (fun p => min (idx p).toInt.toNat 999999) hsi
  · unfold GatherDims.start GatherDims.offCoord
    rw [dif_neg (by decide), dif_pos (by decide)]
    refine (Nat.zero_add _).trans ?_
    have hk : ∀ b ∈ gather_S26x1000000x16_S4096x26x2_S4096x26x16_2_01_n_n_01_2_1116.offsetDims, ((ix3 r f q : S4096x26x16.Idx) b).val = q.val := by
      intro b hb
      obtain rfl : b = 2 := List.mem_singleton.1 hb
      rfl
    exact hk _ (List.getElem_mem _)

/-- A word that is not negative is kept by the reference's wrap of negative ones. -/
theorem wrap_apply {s : Shape} (x : s.Idx → BitVec 32) (n : BitVec 32) (h) (p : s.Idx) (hp : (x p).toNat < 2 ^ 31) :
    select (cmpi .slt x (broadcastInDim s ![] h (constantI S_ 32 0#32))) (addi x (broadcastInDim s ![] h (constantI S_ 32 n))) x p = x p := by
  show Scalar.select (IntOp.cmpi .slt (x p) 0#32) _ (x p) = x p
  have : IntOp.cmpi .slt (x p) 0#32 = 0#1 := by
    refine eq_zero_of_ne_one fun e => ?_
    have := (StableHlo.Predicate.slt_iff_toNat hp (by decide)).1 e
    simp at this
  rw [this, select_zero]

/-- Two columns laid side by side, each a plane of words: the first. -/
theorem pair_left (u w : S4096x26.Idx → BitVec 32) (h1 h2 h) (r : Fin 4096) (f : Fin 26) :
    concatenate S4096x26x2 2 [⟨S4096x26x1, broadcastInDim S4096x26x1 ![0, 1] h1 u⟩, ⟨S4096x26x1, broadcastInDim S4096x26x1 ![0, 1] h2 w⟩] h (ix3 r f (0 : Fin 2)) = u (ix2 r f) := by
  refine (concatenate_pair_apply_left (t := S4096x26x2) (s₁ := S4096x26x1) (s₂ := S4096x26x1) 2 _ _ h (ix3 r f (0 : Fin 2)) rfl (ix3 r f (0 : Fin 1)) fun b => ?_).trans ?_
  · match b with
    | ⟨0, _⟩ => rfl
    | ⟨1, _⟩ => rfl
    | ⟨2, _⟩ => rfl
  · exact broadcastInDim_apply _ _ _ _ (ix2 r f) (fun b => match b with | ⟨0, _⟩ => rfl | ⟨1, _⟩ => rfl)

/-- The second of the two columns. -/
theorem pair_right (u w : S4096x26.Idx → BitVec 32) (h1 h2 h) (r : Fin 4096) (f : Fin 26) :
    concatenate S4096x26x2 2 [⟨S4096x26x1, broadcastInDim S4096x26x1 ![0, 1] h1 u⟩, ⟨S4096x26x1, broadcastInDim S4096x26x1 ![0, 1] h2 w⟩] h (ix3 r f (1 : Fin 2)) = w (ix2 r f) := by
  refine (concatenate_pair_apply_right (t := S4096x26x2) (s₁ := S4096x26x1) (s₂ := S4096x26x1) 2 _ _ h (ix3 r f (1 : Fin 2)) rfl rfl (ix3 r f (0 : Fin 1)) (fun b hb => ?_) rfl).trans ?_
  · match b, hb with
    | ⟨0, _⟩, _ => rfl
    | ⟨1, _⟩, _ => rfl
    | ⟨2, _⟩, hb => exact absurd rfl hb
  · exact broadcastInDim_apply _ _ _ _ (ix2 r f) (fun b => match b with | ⟨0, _⟩ => rfl | ⟨1, _⟩ => rfl)

/-- A row of words repeated over the batch. -/
theorem down (u : S1x26.Idx → BitVec 32) (h) (r : Fin 4096) (f : Fin 26) : broadcastInDim S4096x26 ![0, 1] h u (ix2 r f) = u (ix2 (0 : Fin 1) f) :=
  broadcastInDim_apply _ _ _ _ (ix2 (0 : Fin 1) f) (fun b => match b with | ⟨0, _⟩ => rfl | ⟨1, _⟩ => rfl)

theorem places_field (x : S4096x26.Idx → BitVec 32) (r : Fin 4096) (f : Fin 26) : places x (ix3 r f (0 : Fin 2)) = BitVec.ofNat 32 f.val := by
  have hf := f.isLt
  have e : broadcastInDim S1x26 ![1] bcast_S26_S1x26_1 (iotaInDim S26 32 0) (ix2 (0 : Fin 1) f) = BitVec.ofNat 32 f.val :=
    broadcastInDim_apply _ _ _ _ (ix1 f) (fun b => match b with | ⟨0, _⟩ => rfl)
  unfold places
  refine (pair_left _ _ _ _ _ r f).trans ((down _ _ r f).trans ((wrap_apply _ _ _ _ ?_).trans e))
  rw [e, BitVec.toNat_ofNat]; omega

theorem places_row (x : S4096x26.Idx → BitVec 32) (r : Fin 4096) (f : Fin 26) (hx : (x (ix2 r f)).toNat < 1000000) : places x (ix3 r f (1 : Fin 2)) = x (ix2 r f) := by
  unfold places
  exact (pair_right _ _ _ _ _ r f).trans (wrap_apply _ _ _ _ (by omega))

/-- The table's entry that a batch row's word names, for the row's flat column. -/
def entry (tab : S26x1000000x16.Idx → EReal) (x : S4096x26.Idx → BitVec 32) (hx : ∀ p, (x p).toNat < 1000000) (r : Fin 4096) (j : Fin 416) : EReal :=
  tab (ix3 (⟨j.val / 16, by omega⟩ : Fin 26) (⟨(x (ix2 r (⟨j.val / 16, by omega⟩ : Fin 26))).toNat, hx _⟩ : Fin 1000000) (⟨j.val % 16, Nat.mod_lt _ (by decide)⟩ : Fin 16))

theorem entries_apply (tab : S26x1000000x16.Idx → EReal) (x : S4096x26.Idx → BitVec 32) (hx : ∀ p, (x p).toNat < 1000000) (r : Fin 4096) (j : Fin 416) :
    entries tab x (ix2 r j) = entry tab x hx r j := by
  have hj := j.isLt
  have hf : j.val / 16 < 26 := by omega
  have hr := hx (ix2 r (⟨j.val / 16, by omega⟩ : Fin 26))
  unfold entries
  rw [shapeCast_apply _ _ _ (ix3 r (⟨j.val / 16, by omega⟩ : Fin 26) (⟨j.val % 16, Nat.mod_lt _ (by decide)⟩ : Fin 16)) ?_, gather_apply]
  · unfold entry
    refine congrArg tab (funext fun a => Fin.ext ?_)
    match a with
    | ⟨0, _⟩ =>
      show min (places x (ix3 r (⟨j.val / 16, by omega⟩ : Fin 26) (0 : Fin 2))).toInt.toNat 25 = j.val / 16
      rw [places_field, StableHlo.Predicate.toInt_eq_toNat_of_lt (by rw [BitVec.toNat_ofNat]; omega), Int.toNat_natCast, BitVec.toNat_ofNat, Nat.mod_eq_of_lt (by omega)]
      exact Nat.min_eq_left (Nat.le_of_lt_succ hf)
    | ⟨1, _⟩ =>
      show min (places x (ix3 r (⟨j.val / 16, by omega⟩ : Fin 26) (1 : Fin 2))).toInt.toNat 999999 = (x (ix2 r (⟨j.val / 16, by omega⟩ : Fin 26))).toNat
      rw [places_row _ _ _ hr, StableHlo.Predicate.toInt_eq_toNat_of_lt (by omega), Int.toNat_natCast]
      exact Nat.min_eq_left (Nat.le_of_lt_succ hr)
    | ⟨2, _⟩ => rfl
  · rw [Shape.rowMajor_val_three, Shape.rowMajor_val_two]
    show (r.val * 26 + j.val / 16) * 16 + j.val % 16 = r.val * 416 + j.val
    omega

end Cert.Proof.Entries

end
-- ==== Proof.KernelEntries.lean ====
/-
  The entries the kernel's rows are made of: a batch row's flat column holds the entry of the table its word names, as
  the reference's does.
-/
module

public import proofs.«01_k».proof.Proof.Values
public import proofs.«01_k».proof.Proof.Entries

@[expose] public section

noncomputable section

namespace Cert.Proof.KernelEntries

open Cert.KernelIdeal Cert.KernelIdeal.Gen Cert.Proof.Setup Cert.Proof.Values Cert.Proof.Entries
open Idealize.ShloMosaic Idealize.ShloMosaic.ValueIdx

/-- The flat row numbers, cut in lists, at a batch row's entry. -/
theorem lists_apply (x : S4096x26.Idx → BitVec 32) (b : Fin 4096) (f : Fin 26) (w : Fin 32) (a : Fin 26) (l : Fin 128)
    (h : b.val * 26 + f.val = (w.val * 26 + a.val) * 128 + l.val) :
    shapeCast S32x26x128 (flatRows x) shapeCasts_S4096x26_S32x26x128 (ix3 w a l) = flatRows x (ix2 b f) := by
  refine shapeCast_apply _ _ _ _ ?_
  rw [Shape.rowMajor_val_three, Shape.rowMajor_val_two]
  exact h

/-- The flat table at a field's row. -/
theorem flat_apply (tab : S26x1000000x16.Idx → EReal) (R : Fin 26000000) (f : Fin 26) (v : Fin 1000000) (q : Fin 16) (h : R.val = v.val + f.val * 1000000) :
    shapeCast S26000000x16 tab shapeCasts_S26x1000000x16_S26000000x16 (ix2 R q) = tab (ix3 f v q) := by
  refine shapeCast_apply _ _ _ _ ?_
  rw [Shape.rowMajor_val_three, Shape.rowMajor_val_two]
  show (f.val * 1000000 + v.val) * 16 + q.val = R.val * 16 + q.val
  omega

/-- The gathered rows, laid out by batch row. -/
theorem gathered_apply (tab : S26x1000000x16.Idx → EReal) (x : S4096x26.Idx → BitVec 32) (hx : ∀ p, (x p).toNat < 1000000) (b : Fin 4096) (j : Fin 416) :
    shapeCast S4096x416 (gathered (F := Ideal) (shapeCast S26000000x16 tab shapeCasts_S26x1000000x16_S26000000x16) (shapeCast S32x26x128 (flatRows x) shapeCasts_S4096x26_S32x26x128))
        shapeCasts_S106496x16_S4096x416 (ix2 b j)
      = entry tab x hx b j := by
  have hb := b.isLt
  have hj := j.isLt
  have hf : j.val / 16 < 26 := by omega
  have hP : b.val * 26 + j.val / 16 < 106496 := by omega
  rw [shapeCast_apply _ _ _ (ix2 (⟨b.val * 26 + j.val / 16, hP⟩ : Fin 106496) (⟨j.val % 16, Nat.mod_lt _ (by decide)⟩ : Fin 16)) (by
    rw [Shape.rowMajor_val_two, Shape.rowMajor_val_two]
    show (b.val * 26 + j.val / 16) * 16 + j.val % 16 = b.val * 416 + j.val
    omega)]
  have hl := lists_apply x b ⟨j.val / 16, hf⟩ (⟨(b.val * 26 + j.val / 16) / 3328, by omega⟩ : Fin 32)
    (⟨(b.val * 26 + j.val / 16) % 3328 / 128, by omega⟩ : Fin 26) (⟨(b.val * 26 + j.val / 16) % 3328 % 128, by omega⟩ : Fin 128) (by
    show b.val * 26 + j.val / 16 = ((b.val * 26 + j.val / 16) / 3328 * 26 + (b.val * 26 + j.val / 16) % 3328 / 128) * 128 + (b.val * 26 + j.val / 16) % 3328 % 128
    omega)
  have hn : (flatRows x (ix2 b (⟨j.val / 16, hf⟩ : Fin 26))).toNat = (x (ix2 b (⟨j.val / 16, hf⟩ : Fin 26))).toNat + j.val / 16 * 1000000 := flatRows_toNat x _ (hx _)
  have hv := hx (ix2 b (⟨j.val / 16, hf⟩ : Fin 26))
  have hw : (rowOfWord (flatRows x (ix2 b (⟨j.val / 16, hf⟩ : Fin 26)))).val = (x (ix2 b (⟨j.val / 16, hf⟩ : Fin 26))).toNat + j.val / 16 * 1000000 := by
    rw [rowOfWord_val (by rw [hn]; omega), hn]
  refine Eq.trans ?_ (flat_apply tab (rowOfWord (flatRows x (ix2 b (⟨j.val / 16, hf⟩ : Fin 26)))) ⟨j.val / 16, hf⟩ ⟨(x (ix2 b (⟨j.val / 16, hf⟩ : Fin 26))).toNat, hv⟩
    ⟨j.val % 16, Nat.mod_lt _ (by decide)⟩ hw)
  rw [← hl]
  rfl

end Cert.Proof.KernelEntries

end
-- ==== Proof.KernelRow.lean ====
/-
  The kernel's result read at a row, over the program's arguments.
-/
module

public import proofs.«01_k».proof.Proof.Operands
public import proofs.«01_k».proof.Proof.Blocks
public import proofs.«01_k».proof.Proof.RowKernel
public import proofs.«01_k».proof.Proof.KernelEntries
public import proofs.«01_k».proof.Proof.Frames

@[expose] public section

noncomputable section

namespace Cert.Proof.KernelRow

open Cert.KernelIdeal Cert.KernelIdeal.Gen Cert.Proof.Setup Cert.Proof.Host Cert.Proof.Main Cert.Proof.Values Cert.Proof.Region
open Cert.Proof.Operands Cert.Proof.Blocks Cert.Proof.Spec Cert.Proof.Entries Cert.Proof.KernelEntries Cert.Proof.Frames
open Idealize.ShloMosaic Idealize.ShloMosaic.ValueIdx
open Idealize.ShloMosaic.TcCoe
open Idealize.ShloMosaic.StableHlo (after_of_writes_sub)

theorem norm_congr {x x' μ μ' v v' g g' b b' : EReal} (h0 : x = x') (h1 : μ = μ') (h2 : v = v') (h3 : g = g') (h4 : b = b') :
    norm x μ v g b = norm x' μ' v' g' b' := by subst h0 h1 h2 h3 h4; rfl

theorem rowOut_congr {e e' : Fin 416 → EReal} {n n' : Fin 13 → EReal} {Wc Wc' : Fin 416 → Fin 256 → EReal} {Wn Wn' : Fin 13 → Fin 256 → EReal}
    {b0 b0' m0 m0' v0 v0' g0 g0' be0 be0' : Fin 256 → EReal} {W1 W1' : Fin 256 → Fin 128 → EReal}
    {b1 b1' m1 m1' v1 v1' g1 g1' be1 be1' W2 W2' : Fin 128 → EReal} {b2 b2' : EReal}
    (he : e = e') (hn : n = n') (hc : Wc = Wc') (hw : Wn = Wn') (h1 : b0 = b0') (h2 : m0 = m0') (h3 : v0 = v0') (h4 : g0 = g0') (h5 : be0 = be0') (h6 : W1 = W1')
    (h7 : b1 = b1') (h8 : m1 = m1') (h9 : v1 = v1') (h10 : g1 = g1') (h11 : be1 = be1') (h12 : W2 = W2') (h13 : b2 = b2') :
    rowOut e n Wc Wn b0 m0 v0 g0 be0 W1 b1 m1 v1 g1 be1 W2 b2 = rowOut e' n' Wc' Wn' b0' m0' v0' g0' be0' W1' b1' m1' v1' g1' be1' W2' b2' := by
  subst he hn hc hw h1 h2 h3 h4 h5 h6 h7 h8 h9 h10 h11 h12 h13; rfl

/-- A block that is a whole array, which is a vector made a row. -/
theorem row_of {n : ℕ} {α : Type} {B A : (⟨2, ![1, n]⟩ : Shape).Idx → α} {v v' : (⟨1, ![n]⟩ : Shape).Idx → α} {h : (⟨1, ![n]⟩ : Shape).ShapeCasts ⟨2, ![1, n]⟩}
    (h1 : B = A) (h2 : A = shapeCast ⟨2, ![1, n]⟩ v h) (h3 : v = v') : (fun k : Fin n => B (ix2 (0 : Fin 1) k)) = fun k => v' (ix1 k) := by
  subst h1 h2 h3; exact as_row _ _

variable (m : (ℓ : Loc nD τ sig) → Buf (Elt Ideal) ℓ) (c : Dev nD)

/-- An argument, read as an array. -/
abbrev at0 : S4096x26.Idx → BitVec 32 := m ((c.tc : Thread nD τ).loc main_arg0)
abbrev at1 : S4096x13.Idx → EReal := m ((c.tc : Thread nD τ).loc main_arg1)
abbrev at2 : S26x1000000x16.Idx → EReal := m ((c.tc : Thread nD τ).loc main_arg2)
abbrev at3 : S13.Idx → EReal := m ((c.tc : Thread nD τ).loc main_arg3)
abbrev at4 : S13.Idx → EReal := m ((c.tc : Thread nD τ).loc main_arg4)
abbrev at5 : S13.Idx → EReal := m ((c.tc : Thread nD τ).loc main_arg5)
abbrev at6 : S13.Idx → EReal := m ((c.tc : Thread nD τ).loc main_arg6)
abbrev at7 : S256x429.Idx → EReal := m ((c.tc : Thread nD τ).loc main_arg7)
abbrev at8 : S256.Idx → EReal := m ((c.tc : Thread nD τ).loc main_arg8)
abbrev at9 : S256.Idx → EReal := m ((c.tc : Thread nD τ).loc main_arg9)
abbrev at10 : S256.Idx → EReal := m ((c.tc : Thread nD τ).loc main_arg10)
abbrev at11 : S256.Idx → EReal := m ((c.tc : Thread nD τ).loc main_arg11)
abbrev at12 : S256.Idx → EReal := m ((c.tc : Thread nD τ).loc main_arg12)
abbrev at13 : S128x256.Idx → EReal := m ((c.tc : Thread nD τ).loc main_arg13)
abbrev at14 : S128.Idx → EReal := m ((c.tc : Thread nD τ).loc main_arg14)
abbrev at15 : S128.Idx → EReal := m ((c.tc : Thread nD τ).loc main_arg15)
abbrev at16 : S128.Idx → EReal := m ((c.tc : Thread nD τ).loc main_arg16)
abbrev at17 : S128.Idx → EReal := m ((c.tc : Thread nD τ).loc main_arg17)
abbrev at18 : S128.Idx → EReal := m ((c.tc : Thread nD τ).loc main_arg18)
abbrev at19 : S1x128.Idx → EReal := m ((c.tc : Thread nD τ).loc main_arg19)
abbrev at20 : S1.Idx → EReal := m ((c.tc : Thread nD τ).loc main_arg20)

/-- The numeric array reaches the kernel as it was. -/
theorem atKernel_arg1 : atKernel m c main_arg1 = at1 m c :=
  (after_of_writes_sub opsB _ opsB_writes (by decide)).trans (valC_arg m c main_arg1 (by decide) (by decide))

/-- The gathered rows reach it laid out by batch row. -/
theorem atKernel_v9 (h : ∀ p, (at0 m c p).toNat < 1000000) (b : Fin 4096) (j : Fin 416) :
    (atKernel m c main_v9 : S4096x416.Idx → EReal) (ix2 b j) = entry (at2 m c) (at0 m c) h b j := by
  refine Eq.trans ?_ (gathered_apply (at2 m c) (at0 m c) h b j)
  refine congrFun ((matrices (valC m c)).2.2.2.2.2.trans (congrArg (fun v => shapeCast S4096x416 v shapeCasts_S106496x16_S4096x416) ?_)) _
  rw [valC_v8, tab_eq, ix_eq]

variable (t : Fin cfg1.N) (r : Fin 512)

theorem row (h : ∀ p, (at0 m c p).toNat < 1000000) :
    outB (atKernel m) c t (ix2 r (0 : Fin 1))
      = rowOut (fun j => entry (at2 m c) (at0 m c) h (batchRow t r) j)
          (fun j => norm (at1 m c (ix2 (batchRow t r) j)) (at5 m c (ix1 j)) (at6 m c (ix1 j)) (at3 m c (ix1 j)) (at4 m c (ix1 j)))
          (fun j k => at7 m c (ix2 k (⟨j.val, by omega⟩ : Fin 429))) (fun j k => at7 m c (ix2 k (⟨416 + j.val, by omega⟩ : Fin 429)))
          (fun k => at8 m c (ix1 k)) (fun k => at11 m c (ix1 k)) (fun k => at12 m c (ix1 k)) (fun k => at9 m c (ix1 k)) (fun k => at10 m c (ix1 k))
          (fun j k => at13 m c (ix2 k j))
          (fun k => at14 m c (ix1 k)) (fun k => at17 m c (ix1 k)) (fun k => at18 m c (ix1 k)) (fun k => at15 m c (ix1 k)) (fun k => at16 m c (ix1 k))
          (fun j => at19 m c (ix2 (0 : Fin 1) j)) (at20 m c (ix1 (0 : Fin 1))) := by
  have R := rows13 (valC m c)
  have S := rows256 (valC m c)
  have T := rows128 (valC m c)
  have M := matrices (valC m c)
  have arg := fun b h8 hA => valC_arg m c b h8 hA
  refine (RowKernel.mlpOut_apply _ _ _ _ _ _ _ _ _ _ _ _ _ _ _ _ _ _ _ _ _ r).trans ?_
  refine rowOut_congr ?_ ?_ ?_ ?_ (row_of (block_8 _ c t) S.1 (arg main_arg8 (by decide) (by decide))) (row_of (block_11 _ c t) S.2.2.2.1 (arg main_arg11 (by decide) (by decide)))
    (row_of (block_12 _ c t) S.2.2.2.2 (arg main_arg12 (by decide) (by decide))) (row_of (block_9 _ c t) S.2.1 (arg main_arg9 (by decide) (by decide)))
    (row_of (block_10 _ c t) S.2.2.1 (arg main_arg10 (by decide) (by decide))) ?_
    (row_of (block_14 _ c t) T.1 (arg main_arg14 (by decide) (by decide))) (row_of (block_17 _ c t) T.2.2.2.1 (arg main_arg17 (by decide) (by decide)))
    (row_of (block_18 _ c t) T.2.2.2.2 (arg main_arg18 (by decide) (by decide))) (row_of (block_15 _ c t) T.2.1 (arg main_arg15 (by decide) (by decide)))
    (row_of (block_16 _ c t) T.2.2.1 (arg main_arg16 (by decide) (by decide))) ?_
    (congrFun (row_of (block_20 _ c t) M.2.2.2.2.1 (arg main_arg20 (by decide) (by decide))) 0)
  · exact funext fun j => (block_xc _ c t r j).trans (atKernel_v9 m c h _ j)
  · exact funext fun j => norm_congr ((block_xn _ c t r j).trans (congrFun (atKernel_arg1 m c) _))
      (congrFun (row_of (block_4 _ c t) R.2.2.1 (arg main_arg5 (by decide) (by decide))) j) (congrFun (row_of (block_5 _ c t) R.2.2.2 (arg main_arg6 (by decide) (by decide))) j)
      (congrFun (row_of (block_2 _ c t) R.1 (arg main_arg3 (by decide) (by decide))) j) (congrFun (row_of (block_3 _ c t) R.2.1 (arg main_arg4 (by decide) (by decide))) j)
  · exact funext fun j => funext fun k => (congrFun (block_6 _ c t) _).trans ((congrFun M.1 _).trans ((left_weight _ j k).trans (congrFun (arg main_arg7 (by decide) (by decide)) _)))
  · exact funext fun j => funext fun k => (congrFun (block_7 _ c t) _).trans ((congrFun M.2.1 _).trans ((right_weight _ j k).trans (congrFun (arg main_arg7 (by decide) (by decide)) _)))
  · exact funext fun j => funext fun k => (congrFun (block_13 _ c t) _).trans ((congrFun M.2.2.1 _).trans ((transpose_ix2_apply _ _ j k).trans (congrFun (arg main_arg13 (by decide) (by decide)) _)))
  · exact funext fun j => (congrFun (block_19 _ c t) _).trans ((congrFun M.2.2.2.1 _).trans ((transpose_ix2_apply _ _ j 0).trans (congrFun (arg main_arg19 (by decide) (by decide)) _)))

end Cert.Proof.KernelRow

end
-- ==== Proof.Algebraic.lean ====
/-
  The value claim: over the extended reals the kernel and the reference leave the same result, element by element.
-/
module

public import proofs.«01_k».proof.Proof.KernelRow
public import proofs.«01_k».proof.Proof.Positive

@[expose] public section

noncomputable section

namespace Cert.Proof.Algebraic

open Cert.KernelIdeal Cert.KernelIdeal.Gen Cert.Proof.Setup Cert.Proof.Main Cert.Proof.Region Cert.Proof.Frames Cert.Proof.Spec
open Cert.Proof.Blocks Cert.Proof.KernelRow Cert.Proof.RowReference Cert.Proof.Entries
open Idealize.ShloMosaic Idealize.ShloMosaic.ValueIdx Idealize.SL.Sem
open Idealize.ShloMosaic.TcCoe

variable (m : (ℓ : Loc nD τ sig) → Buf (Elt Ideal) ℓ) (c : Dev nD)

/-- The reference's result on the kernel's arguments is what the kernel leaves. -/
theorem value_eq (hx : ∀ p, (at0 m c p).toNat < 1000000) (hn : ∀ j, 0 < at6 m c j + eps) (h0 : ∀ j, 0 < at12 m c j + eps) (h1 : ∀ j, 0 < at18 m c j + eps) :
    refOut (at0 m c) (at1 m c) (at2 m c) (at3 m c) (at4 m c) (at5 m c) (at6 m c) (at7 m c) (at8 m c) (at9 m c) (at10 m c) (at11 m c) (at12 m c) (at13 m c)
        (at14 m c) (at15 m c) (at16 m c) (at17 m c) (at18 m c) (at19 m c) (at20 m c)
      = (left (atKernel m) c main_v31 : S4096x1.Idx → EReal) := by
  funext p
  obtain ⟨b, z, rfl⟩ : ∃ (b : Fin 4096) (z : Fin 1), p = ix2 b z := ⟨p 0, p 1, funext fun a => match a with | ⟨0, _⟩ => rfl | ⟨1, _⟩ => rfl⟩
  obtain rfl : z = 0 := Subsingleton.elim _ _
  have hb := b.isLt
  obtain ⟨t, r, rfl⟩ : ∃ (t : Fin cfg1.N) (r : Fin 512), b = batchRow t r :=
    ⟨⟨b.val / 512, by have : cfg1.N = 8 := N_1; omega⟩, ⟨b.val % 512, Nat.mod_lt _ (by decide)⟩, Fin.ext (by show b.val = b.val / 512 * 512 + b.val % 512; omega)⟩
  refine (refOut_apply _ _ _ _ _ _ _ _ _ _ _ _ _ _ _ _ _ _ _ _ _ (fun j => hn _) (fun j => h0 _) (fun j => h1 _) (batchRow t r)).trans ?_
  refine Eq.trans ?_ ((left_row (atKernel m) c t r).trans (row m c t r hx)).symm
  exact rowOut_congr (funext fun j => entries_apply _ _ hx _ j) rfl rfl rfl rfl rfl rfl rfl rfl rfl rfl rfl rfl rfl rfl rfl rfl

theorem algebraic : Cert.algebraic_KernelIdeal_ReferenceIdeal_pre_rows_and_variances := by
  intro m g m' g' hpre hargs
  refine ⟨fun c => left (atKernel m) c main_v31, ?_, ?_⟩
  · exact (θ_run Cert.KernelIdeal.defs _ _).mono (fun r hr c => ⟨hr.1 c main_v31 (by decide), args_kept m hr c⟩) (run_rows m g (Positive.rows hpre))
  · refine (θ_run Cert.ReferenceIdeal.defs _ _).mono (fun r hr c => ⟨(hr c).1.trans ?_, (hr c).2⟩) (Cert.ReferenceIdeal.Value.run (F := Ideal) m' g')
    obtain ⟨e0, e1, e2, e3, e4, e5, e6, e7, e8, e9, e10, e11, e12, e13, e14, e15, e16, e17, e18, e19, e20⟩ := hargs c
    obtain ⟨hx, hn, h0, h1⟩ := Positive.parts (hpre c)
    rw [result_eq, e0, e1, e2, e3, e4, e5, e6, e7, e8, e9, e10, e11, e12, e13, e14, e15, e16, e17, e18, e19, e20]
    exact value_eq m c hx hn h0 h1

end Cert.Proof.Algebraic

end
-- ==== Proof.lean ====
module

public import proofs.«01_k».proof.Defs
public import proofs.«01_k».proof.Proof.Frames
public import proofs.«01_k».proof.Proof.Positive
public import proofs.«01_k».proof.Proof.Algebraic

@[expose] public section

noncomputable section

namespace Cert.Proof

theorem claim : Cert.Claim := ⟨Cert.Kernel.Gen.facts, Cert.KernelIdeal.Gen.facts, Cert.ReferenceIdeal.Gen.facts, Cert.Pre_rows_in_table.Gen.facts, Positive.facts,
  Frames.frame_kernel, Frames.frame_ideal, Positive.frame_ideal, Frames.frame_reference, Positive.frame_reference, trivial, Algebraic.algebraic⟩

end Cert.Proof

end
